-- ==== Defs.lean ====
def Pre_Kernel [hPre_pi_is_0123_Kernel : Cert.Pre_pi_is_0123_Kernel.Facts] (m : (ℓ : Loc Cert.Kernel.nD Cert.Kernel.τ Cert.Kernel.sig) → Buf (Elt Bits) ℓ) : Prop :=
  ∀ c : Dev Cert.Kernel.nD,
    (Cert.Pre_pi_is_0123_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_0132_Kernel [hPre_pi_is_0132_Kernel : Cert.Pre_pi_is_0132_Kernel.Facts] (m : (ℓ : Loc Cert.Kernel.nD Cert.Kernel.τ Cert.Kernel.sig) → Buf (Elt Bits) ℓ) : Prop :=
  ∀ c : Dev Cert.Kernel.nD,
    (Cert.Pre_pi_is_0132_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_0213_Kernel [hPre_pi_is_0213_Kernel : Cert.Pre_pi_is_0213_Kernel.Facts] (m : (ℓ : Loc Cert.Kernel.nD Cert.Kernel.τ Cert.Kernel.sig) → Buf (Elt Bits) ℓ) : Prop :=
  ∀ c : Dev Cert.Kernel.nD,
    (Cert.Pre_pi_is_0213_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_0231_Kernel [hPre_pi_is_0231_Kernel : Cert.Pre_pi_is_0231_Kernel.Facts] (m : (ℓ : Loc Cert.Kernel.nD Cert.Kernel.τ Cert.Kernel.sig) → Buf (Elt Bits) ℓ) : Prop :=
  ∀ c : Dev Cert.Kernel.nD,
    (Cert.Pre_pi_is_0231_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_0312_Kernel [hPre_pi_is_0312_Kernel : Cert.Pre_pi_is_0312_Kernel.Facts] (m : (ℓ : Loc Cert.Kernel.nD Cert.Kernel.τ Cert.Kernel.sig) → Buf (Elt Bits) ℓ) : Prop :=
  ∀ c : Dev Cert.Kernel.nD,
    (Cert.Pre_pi_is_0312_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_0321_Kernel [hPre_pi_is_0321_Kernel : Cert.Pre_pi_is_0321_Kernel.Facts] (m : (ℓ : Loc Cert.Kernel.nD Cert.Kernel.τ Cert.Kernel.sig) → Buf (Elt Bits) ℓ) : Prop :=
  ∀ c : Dev Cert.Kernel.nD,
    (Cert.Pre_pi_is_0321_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_1023_Kernel [hPre_pi_is_1023_Kernel : Cert.Pre_pi_is_1023_Kernel.Facts] (m : (ℓ : Loc Cert.Kernel.nD Cert.Kernel.τ Cert.Kernel.sig) → Buf (Elt Bits) ℓ) : Prop :=
  ∀ c : Dev Cert.Kernel.nD,
    (Cert.Pre_pi_is_1023_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_1032_Kernel [hPre_pi_is_1032_Kernel : Cert.Pre_pi_is_1032_Kernel.Facts] (m : (ℓ : Loc Cert.Kernel.nD Cert.Kernel.τ Cert.Kernel.sig) → Buf (Elt Bits) ℓ) : Prop :=
  ∀ c : Dev Cert.Kernel.nD,
    (Cert.Pre_pi_is_1032_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_1203_Kernel [hPre_pi_is_1203_Kernel : Cert.Pre_pi_is_1203_Kernel.Facts] (m : (ℓ : Loc Cert.Kernel.nD Cert.Kernel.τ Cert.Kernel.sig) → Buf (Elt Bits) ℓ) : Prop :=
  ∀ c : Dev Cert.Kernel.nD,
    (Cert.Pre_pi_is_1203_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_1230_Kernel [hPre_pi_is_1230_Kernel : Cert.Pre_pi_is_1230_Kernel.Facts] (m : (ℓ : Loc Cert.Kernel.nD Cert.Kernel.τ Cert.Kernel.sig) → Buf (Elt Bits) ℓ) : Prop :=
  ∀ c : Dev Cert.Kernel.nD,
    (Cert.Pre_pi_is_1230_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_1302_Kernel [hPre_pi_is_1302_Kernel : Cert.Pre_pi_is_1302_Kernel.Facts] (m : (ℓ : Loc Cert.Kernel.nD Cert.Kernel.τ Cert.Kernel.sig) → Buf (Elt Bits) ℓ) : Prop :=
  ∀ c : Dev Cert.Kernel.nD,
    (Cert.Pre_pi_is_1302_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_1320_Kernel [hPre_pi_is_1320_Kernel : Cert.Pre_pi_is_1320_Kernel.Facts] (m : (ℓ : Loc Cert.Kernel.nD Cert.Kernel.τ Cert.Kernel.sig) → Buf (Elt Bits) ℓ) : Prop :=
  ∀ c : Dev Cert.Kernel.nD,
    (Cert.Pre_pi_is_1320_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_2013_Kernel [hPre_pi_is_2013_Kernel : Cert.Pre_pi_is_2013_Kernel.Facts] (m : (ℓ : Loc Cert.Kernel.nD Cert.Kernel.τ Cert.Kernel.sig) → Buf (Elt Bits) ℓ) : Prop :=
  ∀ c : Dev Cert.Kernel.nD,
    (Cert.Pre_pi_is_2013_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_2031_Kernel [hPre_pi_is_2031_Kernel : Cert.Pre_pi_is_2031_Kernel.Facts] (m : (ℓ : Loc Cert.Kernel.nD Cert.Kernel.τ Cert.Kernel.sig) → Buf (Elt Bits) ℓ) : Prop :=
  ∀ c : Dev Cert.Kernel.nD,
    (Cert.Pre_pi_is_2031_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_2103_Kernel [hPre_pi_is_2103_Kernel : Cert.Pre_pi_is_2103_Kernel.Facts] (m : (ℓ : Loc Cert.Kernel.nD Cert.Kernel.τ Cert.Kernel.sig) → Buf (Elt Bits) ℓ) : Prop :=
  ∀ c : Dev Cert.Kernel.nD,
    (Cert.Pre_pi_is_2103_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_2130_Kernel [hPre_pi_is_2130_Kernel : Cert.Pre_pi_is_2130_Kernel.Facts] (m : (ℓ : Loc Cert.Kernel.nD Cert.Kernel.τ Cert.Kernel.sig) → Buf (Elt Bits) ℓ) : Prop :=
  ∀ c : Dev Cert.Kernel.nD,
    (Cert.Pre_pi_is_2130_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_2301_Kernel [hPre_pi_is_2301_Kernel : Cert.Pre_pi_is_2301_Kernel.Facts] (m : (ℓ : Loc Cert.Kernel.nD Cert.Kernel.τ Cert.Kernel.sig) → Buf (Elt Bits) ℓ) : Prop :=
  ∀ c : Dev Cert.Kernel.nD,
    (Cert.Pre_pi_is_2301_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_2310_Kernel [hPre_pi_is_2310_Kernel : Cert.Pre_pi_is_2310_Kernel.Facts] (m : (ℓ : Loc Cert.Kernel.nD Cert.Kernel.τ Cert.Kernel.sig) → Buf (Elt Bits) ℓ) : Prop :=
  ∀ c : Dev Cert.Kernel.nD,
    (Cert.Pre_pi_is_2310_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_3012_Kernel [hPre_pi_is_3012_Kernel : Cert.Pre_pi_is_3012_Kernel.Facts] (m : (ℓ : Loc Cert.Kernel.nD Cert.Kernel.τ Cert.Kernel.sig) → Buf (Elt Bits) ℓ) : Prop :=
  ∀ c : Dev Cert.Kernel.nD,
    (Cert.Pre_pi_is_3012_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_3021_Kernel [hPre_pi_is_3021_Kernel : Cert.Pre_pi_is_3021_Kernel.Facts] (m : (ℓ : Loc Cert.Kernel.nD Cert.Kernel.τ Cert.Kernel.sig) → Buf (Elt Bits) ℓ) : Prop :=
  ∀ c : Dev Cert.Kernel.nD,
    (Cert.Pre_pi_is_3021_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_3102_Kernel [hPre_pi_is_3102_Kernel : Cert.Pre_pi_is_3102_Kernel.Facts] (m : (ℓ : Loc Cert.Kernel.nD Cert.Kernel.τ Cert.Kernel.sig) → Buf (Elt Bits) ℓ) : Prop :=
  ∀ c : Dev Cert.Kernel.nD,
    (Cert.Pre_pi_is_3102_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_3120_Kernel [hPre_pi_is_3120_Kernel : Cert.Pre_pi_is_3120_Kernel.Facts] (m : (ℓ : Loc Cert.Kernel.nD Cert.Kernel.τ Cert.Kernel.sig) → Buf (Elt Bits) ℓ) : Prop :=
  ∀ c : Dev Cert.Kernel.nD,
    (Cert.Pre_pi_is_3120_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_3201_Kernel [hPre_pi_is_3201_Kernel : Cert.Pre_pi_is_3201_Kernel.Facts] (m : (ℓ : Loc Cert.Kernel.nD Cert.Kernel.τ Cert.Kernel.sig) → Buf (Elt Bits) ℓ) : Prop :=
  ∀ c : Dev Cert.Kernel.nD,
    (Cert.Pre_pi_is_3201_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_3210_Kernel [hPre_pi_is_3210_Kernel : Cert.Pre_pi_is_3210_Kernel.Facts] (m : (ℓ : Loc Cert.Kernel.nD Cert.Kernel.τ Cert.Kernel.sig) → Buf (Elt Bits) ℓ) : Prop :=
  ∀ c : Dev Cert.Kernel.nD,
    (Cert.Pre_pi_is_3210_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_pi_is_0123_Kernel : Cert.Pre_pi_is_0123_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_0123_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_0132_Kernel [hPre_pi_is_0132_Kernel : Cert.Pre_pi_is_0132_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_0132_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_0213_Kernel [hPre_pi_is_0213_Kernel : Cert.Pre_pi_is_0213_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_0213_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_0231_Kernel [hPre_pi_is_0231_Kernel : Cert.Pre_pi_is_0231_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_0231_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_0312_Kernel [hPre_pi_is_0312_Kernel : Cert.Pre_pi_is_0312_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_0312_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_0321_Kernel [hPre_pi_is_0321_Kernel : Cert.Pre_pi_is_0321_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_0321_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_1023_Kernel [hPre_pi_is_1023_Kernel : Cert.Pre_pi_is_1023_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_1023_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_1032_Kernel [hPre_pi_is_1032_Kernel : Cert.Pre_pi_is_1032_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_1032_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_1203_Kernel [hPre_pi_is_1203_Kernel : Cert.Pre_pi_is_1203_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_1203_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_1230_Kernel [hPre_pi_is_1230_Kernel : Cert.Pre_pi_is_1230_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_1230_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_1302_Kernel [hPre_pi_is_1302_Kernel : Cert.Pre_pi_is_1302_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_1302_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_1320_Kernel [hPre_pi_is_1320_Kernel : Cert.Pre_pi_is_1320_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_1320_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_2013_Kernel [hPre_pi_is_2013_Kernel : Cert.Pre_pi_is_2013_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_2013_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_2031_Kernel [hPre_pi_is_2031_Kernel : Cert.Pre_pi_is_2031_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_2031_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_2103_Kernel [hPre_pi_is_2103_Kernel : Cert.Pre_pi_is_2103_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_2103_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_2130_Kernel [hPre_pi_is_2130_Kernel : Cert.Pre_pi_is_2130_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_2130_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_2301_Kernel [hPre_pi_is_2301_Kernel : Cert.Pre_pi_is_2301_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_2301_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_2310_Kernel [hPre_pi_is_2310_Kernel : Cert.Pre_pi_is_2310_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_2310_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_3012_Kernel [hPre_pi_is_3012_Kernel : Cert.Pre_pi_is_3012_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_3012_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_3021_Kernel [hPre_pi_is_3021_Kernel : Cert.Pre_pi_is_3021_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_3021_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_3102_Kernel [hPre_pi_is_3102_Kernel : Cert.Pre_pi_is_3102_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_3102_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_3120_Kernel [hPre_pi_is_3120_Kernel : Cert.Pre_pi_is_3120_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_3120_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_3201_Kernel [hPre_pi_is_3201_Kernel : Cert.Pre_pi_is_3201_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_3201_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_3210_Kernel [hPre_pi_is_3210_Kernel : Cert.Pre_pi_is_3210_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_3210_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pi_is_0123_ReferenceIdeal [hPre_pi_is_0123_ReferenceIdeal : Cert.Pre_pi_is_0123_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_0123_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_0132_ReferenceIdeal [hPre_pi_is_0132_ReferenceIdeal : Cert.Pre_pi_is_0132_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_0132_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_0213_ReferenceIdeal [hPre_pi_is_0213_ReferenceIdeal : Cert.Pre_pi_is_0213_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_0213_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_0231_ReferenceIdeal [hPre_pi_is_0231_ReferenceIdeal : Cert.Pre_pi_is_0231_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_0231_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_0312_ReferenceIdeal [hPre_pi_is_0312_ReferenceIdeal : Cert.Pre_pi_is_0312_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_0312_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_0321_ReferenceIdeal [hPre_pi_is_0321_ReferenceIdeal : Cert.Pre_pi_is_0321_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_0321_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_1023_ReferenceIdeal [hPre_pi_is_1023_ReferenceIdeal : Cert.Pre_pi_is_1023_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_1023_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_1032_ReferenceIdeal [hPre_pi_is_1032_ReferenceIdeal : Cert.Pre_pi_is_1032_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_1032_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_1203_ReferenceIdeal [hPre_pi_is_1203_ReferenceIdeal : Cert.Pre_pi_is_1203_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_1203_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_1230_ReferenceIdeal [hPre_pi_is_1230_ReferenceIdeal : Cert.Pre_pi_is_1230_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_1230_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_1302_ReferenceIdeal [hPre_pi_is_1302_ReferenceIdeal : Cert.Pre_pi_is_1302_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_1302_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_1320_ReferenceIdeal [hPre_pi_is_1320_ReferenceIdeal : Cert.Pre_pi_is_1320_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_1320_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_2013_ReferenceIdeal [hPre_pi_is_2013_ReferenceIdeal : Cert.Pre_pi_is_2013_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_2013_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_2031_ReferenceIdeal [hPre_pi_is_2031_ReferenceIdeal : Cert.Pre_pi_is_2031_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_2031_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_2103_ReferenceIdeal [hPre_pi_is_2103_ReferenceIdeal : Cert.Pre_pi_is_2103_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_2103_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_2130_ReferenceIdeal [hPre_pi_is_2130_ReferenceIdeal : Cert.Pre_pi_is_2130_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_2130_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_2301_ReferenceIdeal [hPre_pi_is_2301_ReferenceIdeal : Cert.Pre_pi_is_2301_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_2301_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_2310_ReferenceIdeal [hPre_pi_is_2310_ReferenceIdeal : Cert.Pre_pi_is_2310_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_2310_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_3012_ReferenceIdeal [hPre_pi_is_3012_ReferenceIdeal : Cert.Pre_pi_is_3012_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_3012_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_3021_ReferenceIdeal [hPre_pi_is_3021_ReferenceIdeal : Cert.Pre_pi_is_3021_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_3021_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_3102_ReferenceIdeal [hPre_pi_is_3102_ReferenceIdeal : Cert.Pre_pi_is_3102_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_3102_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_3120_ReferenceIdeal [hPre_pi_is_3120_ReferenceIdeal : Cert.Pre_pi_is_3120_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_3120_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_3201_ReferenceIdeal [hPre_pi_is_3201_ReferenceIdeal : Cert.Pre_pi_is_3201_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_3201_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_3210_ReferenceIdeal [hPre_pi_is_3210_ReferenceIdeal : Cert.Pre_pi_is_3210_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_3210_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_pi_is_0123_Kernel : Cert.Pre_pi_is_0123_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_0132_Kernel [hKernel : Cert.Kernel.Facts] [hPre_pi_is_0132_Kernel : Cert.Pre_pi_is_0132_Kernel.Facts] : Prop :=
  ∀ (m : (ℓ : Loc Cert.Kernel.nD Cert.Kernel.τ Cert.Kernel.sig) → Buf (Elt Bits) ℓ) (g : Dev Cert.Kernel.nD → PrngReg), Pre_Kernel_pi_is_0132_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_0213_Kernel [hKernel : Cert.Kernel.Facts] [hPre_pi_is_0213_Kernel : Cert.Pre_pi_is_0213_Kernel.Facts] : Prop :=
  ∀ (m : (ℓ : Loc Cert.Kernel.nD Cert.Kernel.τ Cert.Kernel.sig) → Buf (Elt Bits) ℓ) (g : Dev Cert.Kernel.nD → PrngReg), Pre_Kernel_pi_is_0213_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_0231_Kernel [hKernel : Cert.Kernel.Facts] [hPre_pi_is_0231_Kernel : Cert.Pre_pi_is_0231_Kernel.Facts] : Prop :=
  ∀ (m : (ℓ : Loc Cert.Kernel.nD Cert.Kernel.τ Cert.Kernel.sig) → Buf (Elt Bits) ℓ) (g : Dev Cert.Kernel.nD → PrngReg), Pre_Kernel_pi_is_0231_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_0312_Kernel [hKernel : Cert.Kernel.Facts] [hPre_pi_is_0312_Kernel : Cert.Pre_pi_is_0312_Kernel.Facts] : Prop :=
  ∀ (m : (ℓ : Loc Cert.Kernel.nD Cert.Kernel.τ Cert.Kernel.sig) → Buf (Elt Bits) ℓ) (g : Dev Cert.Kernel.nD → PrngReg), Pre_Kernel_pi_is_0312_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_0321_Kernel [hKernel : Cert.Kernel.Facts] [hPre_pi_is_0321_Kernel : Cert.Pre_pi_is_0321_Kernel.Facts] : Prop :=
  ∀ (m : (ℓ : Loc Cert.Kernel.nD Cert.Kernel.τ Cert.Kernel.sig) → Buf (Elt Bits) ℓ) (g : Dev Cert.Kernel.nD → PrngReg), Pre_Kernel_pi_is_0321_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_1023_Kernel [hKernel : Cert.Kernel.Facts] [hPre_pi_is_1023_Kernel : Cert.Pre_pi_is_1023_Kernel.Facts] : Prop :=
  ∀ (m : (ℓ : Loc Cert.Kernel.nD Cert.Kernel.τ Cert.Kernel.sig) → Buf (Elt Bits) ℓ) (g : Dev Cert.Kernel.nD → PrngReg), Pre_Kernel_pi_is_1023_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_1032_Kernel [hKernel : Cert.Kernel.Facts] [hPre_pi_is_1032_Kernel : Cert.Pre_pi_is_1032_Kernel.Facts] : Prop :=
  ∀ (m : (ℓ : Loc Cert.Kernel.nD Cert.Kernel.τ Cert.Kernel.sig) → Buf (Elt Bits) ℓ) (g : Dev Cert.Kernel.nD → PrngReg), Pre_Kernel_pi_is_1032_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_1203_Kernel [hKernel : Cert.Kernel.Facts] [hPre_pi_is_1203_Kernel : Cert.Pre_pi_is_1203_Kernel.Facts] : Prop :=
  ∀ (m : (ℓ : Loc Cert.Kernel.nD Cert.Kernel.τ Cert.Kernel.sig) → Buf (Elt Bits) ℓ) (g : Dev Cert.Kernel.nD → PrngReg), Pre_Kernel_pi_is_1203_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_1230_Kernel [hKernel : Cert.Kernel.Facts] [hPre_pi_is_1230_Kernel : Cert.Pre_pi_is_1230_Kernel.Facts] : Prop :=
  ∀ (m : (ℓ : Loc Cert.Kernel.nD Cert.Kernel.τ Cert.Kernel.sig) → Buf (Elt Bits) ℓ) (g : Dev Cert.Kernel.nD → PrngReg), Pre_Kernel_pi_is_1230_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_1302_Kernel [hKernel : Cert.Kernel.Facts] [hPre_pi_is_1302_Kernel : Cert.Pre_pi_is_1302_Kernel.Facts] : Prop :=
  ∀ (m : (ℓ : Loc Cert.Kernel.nD Cert.Kernel.τ Cert.Kernel.sig) → Buf (Elt Bits) ℓ) (g : Dev Cert.Kernel.nD → PrngReg), Pre_Kernel_pi_is_1302_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_1320_Kernel [hKernel : Cert.Kernel.Facts] [hPre_pi_is_1320_Kernel : Cert.Pre_pi_is_1320_Kernel.Facts] : Prop :=
  ∀ (m : (ℓ : Loc Cert.Kernel.nD Cert.Kernel.τ Cert.Kernel.sig) → Buf (Elt Bits) ℓ) (g : Dev Cert.Kernel.nD → PrngReg), Pre_Kernel_pi_is_1320_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_2013_Kernel [hKernel : Cert.Kernel.Facts] [hPre_pi_is_2013_Kernel : Cert.Pre_pi_is_2013_Kernel.Facts] : Prop :=
  ∀ (m : (ℓ : Loc Cert.Kernel.nD Cert.Kernel.τ Cert.Kernel.sig) → Buf (Elt Bits) ℓ) (g : Dev Cert.Kernel.nD → PrngReg), Pre_Kernel_pi_is_2013_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_2031_Kernel [hKernel : Cert.Kernel.Facts] [hPre_pi_is_2031_Kernel : Cert.Pre_pi_is_2031_Kernel.Facts] : Prop :=
  ∀ (m : (ℓ : Loc Cert.Kernel.nD Cert.Kernel.τ Cert.Kernel.sig) → Buf (Elt Bits) ℓ) (g : Dev Cert.Kernel.nD → PrngReg), Pre_Kernel_pi_is_2031_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_2103_Kernel [hKernel : Cert.Kernel.Facts] [hPre_pi_is_2103_Kernel : Cert.Pre_pi_is_2103_Kernel.Facts] : Prop :=
  ∀ (m : (ℓ : Loc Cert.Kernel.nD Cert.Kernel.τ Cert.Kernel.sig) → Buf (Elt Bits) ℓ) (g : Dev Cert.Kernel.nD → PrngReg), Pre_Kernel_pi_is_2103_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_2130_Kernel [hKernel : Cert.Kernel.Facts] [hPre_pi_is_2130_Kernel : Cert.Pre_pi_is_2130_Kernel.Facts] : Prop :=
  ∀ (m : (ℓ : Loc Cert.Kernel.nD Cert.Kernel.τ Cert.Kernel.sig) → Buf (Elt Bits) ℓ) (g : Dev Cert.Kernel.nD → PrngReg), Pre_Kernel_pi_is_2130_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_2301_Kernel [hKernel : Cert.Kernel.Facts] [hPre_pi_is_2301_Kernel : Cert.Pre_pi_is_2301_Kernel.Facts] : Prop :=
  ∀ (m : (ℓ : Loc Cert.Kernel.nD Cert.Kernel.τ Cert.Kernel.sig) → Buf (Elt Bits) ℓ) (g : Dev Cert.Kernel.nD → PrngReg), Pre_Kernel_pi_is_2301_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_2310_Kernel [hKernel : Cert.Kernel.Facts] [hPre_pi_is_2310_Kernel : Cert.Pre_pi_is_2310_Kernel.Facts] : Prop :=
  ∀ (m : (ℓ : Loc Cert.Kernel.nD Cert.Kernel.τ Cert.Kernel.sig) → Buf (Elt Bits) ℓ) (g : Dev Cert.Kernel.nD → PrngReg), Pre_Kernel_pi_is_2310_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_3012_Kernel [hKernel : Cert.Kernel.Facts] [hPre_pi_is_3012_Kernel : Cert.Pre_pi_is_3012_Kernel.Facts] : Prop :=
  ∀ (m : (ℓ : Loc Cert.Kernel.nD Cert.Kernel.τ Cert.Kernel.sig) → Buf (Elt Bits) ℓ) (g : Dev Cert.Kernel.nD → PrngReg), Pre_Kernel_pi_is_3012_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_3021_Kernel [hKernel : Cert.Kernel.Facts] [hPre_pi_is_3021_Kernel : Cert.Pre_pi_is_3021_Kernel.Facts] : Prop :=
  ∀ (m : (ℓ : Loc Cert.Kernel.nD Cert.Kernel.τ Cert.Kernel.sig) → Buf (Elt Bits) ℓ) (g : Dev Cert.Kernel.nD → PrngReg), Pre_Kernel_pi_is_3021_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_3102_Kernel [hKernel : Cert.Kernel.Facts] [hPre_pi_is_3102_Kernel : Cert.Pre_pi_is_3102_Kernel.Facts] : Prop :=
  ∀ (m : (ℓ : Loc Cert.Kernel.nD Cert.Kernel.τ Cert.Kernel.sig) → Buf (Elt Bits) ℓ) (g : Dev Cert.Kernel.nD → PrngReg), Pre_Kernel_pi_is_3102_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_3120_Kernel [hKernel : Cert.Kernel.Facts] [hPre_pi_is_3120_Kernel : Cert.Pre_pi_is_3120_Kernel.Facts] : Prop :=
  ∀ (m : (ℓ : Loc Cert.Kernel.nD Cert.Kernel.τ Cert.Kernel.sig) → Buf (Elt Bits) ℓ) (g : Dev Cert.Kernel.nD → PrngReg), Pre_Kernel_pi_is_3120_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_3201_Kernel [hKernel : Cert.Kernel.Facts] [hPre_pi_is_3201_Kernel : Cert.Pre_pi_is_3201_Kernel.Facts] : Prop :=
  ∀ (m : (ℓ : Loc Cert.Kernel.nD Cert.Kernel.τ Cert.Kernel.sig) → Buf (Elt Bits) ℓ) (g : Dev Cert.Kernel.nD → PrngReg), Pre_Kernel_pi_is_3201_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_3210_Kernel [hKernel : Cert.Kernel.Facts] [hPre_pi_is_3210_Kernel : Cert.Pre_pi_is_3210_Kernel.Facts] : Prop :=
  ∀ (m : (ℓ : Loc Cert.Kernel.nD Cert.Kernel.τ Cert.Kernel.sig) → Buf (Elt Bits) ℓ) (g : Dev Cert.Kernel.nD → PrngReg), Pre_Kernel_pi_is_3210_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_pi_is_0123_Kernel : Cert.Pre_pi_is_0123_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_0132_Kernel [hKernelIdeal : Cert.KernelIdeal.Facts] [hPre_pi_is_0132_Kernel : Cert.Pre_pi_is_0132_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_0132_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_0213_Kernel [hKernelIdeal : Cert.KernelIdeal.Facts] [hPre_pi_is_0213_Kernel : Cert.Pre_pi_is_0213_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_0213_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_0231_Kernel [hKernelIdeal : Cert.KernelIdeal.Facts] [hPre_pi_is_0231_Kernel : Cert.Pre_pi_is_0231_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_0231_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_0312_Kernel [hKernelIdeal : Cert.KernelIdeal.Facts] [hPre_pi_is_0312_Kernel : Cert.Pre_pi_is_0312_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_0312_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_0321_Kernel [hKernelIdeal : Cert.KernelIdeal.Facts] [hPre_pi_is_0321_Kernel : Cert.Pre_pi_is_0321_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_0321_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_1023_Kernel [hKernelIdeal : Cert.KernelIdeal.Facts] [hPre_pi_is_1023_Kernel : Cert.Pre_pi_is_1023_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_1023_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_1032_Kernel [hKernelIdeal : Cert.KernelIdeal.Facts] [hPre_pi_is_1032_Kernel : Cert.Pre_pi_is_1032_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_1032_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_1203_Kernel [hKernelIdeal : Cert.KernelIdeal.Facts] [hPre_pi_is_1203_Kernel : Cert.Pre_pi_is_1203_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_1203_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_1230_Kernel [hKernelIdeal : Cert.KernelIdeal.Facts] [hPre_pi_is_1230_Kernel : Cert.Pre_pi_is_1230_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_1230_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_1302_Kernel [hKernelIdeal : Cert.KernelIdeal.Facts] [hPre_pi_is_1302_Kernel : Cert.Pre_pi_is_1302_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_1302_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_1320_Kernel [hKernelIdeal : Cert.KernelIdeal.Facts] [hPre_pi_is_1320_Kernel : Cert.Pre_pi_is_1320_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_1320_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_2013_Kernel [hKernelIdeal : Cert.KernelIdeal.Facts] [hPre_pi_is_2013_Kernel : Cert.Pre_pi_is_2013_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_2013_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_2031_Kernel [hKernelIdeal : Cert.KernelIdeal.Facts] [hPre_pi_is_2031_Kernel : Cert.Pre_pi_is_2031_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_2031_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_2103_Kernel [hKernelIdeal : Cert.KernelIdeal.Facts] [hPre_pi_is_2103_Kernel : Cert.Pre_pi_is_2103_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_2103_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_2130_Kernel [hKernelIdeal : Cert.KernelIdeal.Facts] [hPre_pi_is_2130_Kernel : Cert.Pre_pi_is_2130_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_2130_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_2301_Kernel [hKernelIdeal : Cert.KernelIdeal.Facts] [hPre_pi_is_2301_Kernel : Cert.Pre_pi_is_2301_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_2301_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_2310_Kernel [hKernelIdeal : Cert.KernelIdeal.Facts] [hPre_pi_is_2310_Kernel : Cert.Pre_pi_is_2310_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_2310_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_3012_Kernel [hKernelIdeal : Cert.KernelIdeal.Facts] [hPre_pi_is_3012_Kernel : Cert.Pre_pi_is_3012_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_3012_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_3021_Kernel [hKernelIdeal : Cert.KernelIdeal.Facts] [hPre_pi_is_3021_Kernel : Cert.Pre_pi_is_3021_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_3021_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_3102_Kernel [hKernelIdeal : Cert.KernelIdeal.Facts] [hPre_pi_is_3102_Kernel : Cert.Pre_pi_is_3102_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_3102_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_3120_Kernel [hKernelIdeal : Cert.KernelIdeal.Facts] [hPre_pi_is_3120_Kernel : Cert.Pre_pi_is_3120_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_3120_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_3201_Kernel [hKernelIdeal : Cert.KernelIdeal.Facts] [hPre_pi_is_3201_Kernel : Cert.Pre_pi_is_3201_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_3201_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_3210_Kernel [hKernelIdeal : Cert.KernelIdeal.Facts] [hPre_pi_is_3210_Kernel : Cert.Pre_pi_is_3210_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_3210_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_0123_ReferenceIdeal [hReferenceIdeal : Cert.ReferenceIdeal.Facts] [hPre_pi_is_0123_ReferenceIdeal : Cert.Pre_pi_is_0123_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_0123_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_0132_ReferenceIdeal [hReferenceIdeal : Cert.ReferenceIdeal.Facts] [hPre_pi_is_0132_ReferenceIdeal : Cert.Pre_pi_is_0132_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_0132_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_0213_ReferenceIdeal [hReferenceIdeal : Cert.ReferenceIdeal.Facts] [hPre_pi_is_0213_ReferenceIdeal : Cert.Pre_pi_is_0213_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_0213_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_0231_ReferenceIdeal [hReferenceIdeal : Cert.ReferenceIdeal.Facts] [hPre_pi_is_0231_ReferenceIdeal : Cert.Pre_pi_is_0231_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_0231_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_0312_ReferenceIdeal [hReferenceIdeal : Cert.ReferenceIdeal.Facts] [hPre_pi_is_0312_ReferenceIdeal : Cert.Pre_pi_is_0312_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_0312_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_0321_ReferenceIdeal [hReferenceIdeal : Cert.ReferenceIdeal.Facts] [hPre_pi_is_0321_ReferenceIdeal : Cert.Pre_pi_is_0321_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_0321_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_1023_ReferenceIdeal [hReferenceIdeal : Cert.ReferenceIdeal.Facts] [hPre_pi_is_1023_ReferenceIdeal : Cert.Pre_pi_is_1023_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_1023_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_1032_ReferenceIdeal [hReferenceIdeal : Cert.ReferenceIdeal.Facts] [hPre_pi_is_1032_ReferenceIdeal : Cert.Pre_pi_is_1032_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_1032_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_1203_ReferenceIdeal [hReferenceIdeal : Cert.ReferenceIdeal.Facts] [hPre_pi_is_1203_ReferenceIdeal : Cert.Pre_pi_is_1203_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_1203_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_1230_ReferenceIdeal [hReferenceIdeal : Cert.ReferenceIdeal.Facts] [hPre_pi_is_1230_ReferenceIdeal : Cert.Pre_pi_is_1230_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_1230_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_1302_ReferenceIdeal [hReferenceIdeal : Cert.ReferenceIdeal.Facts] [hPre_pi_is_1302_ReferenceIdeal : Cert.Pre_pi_is_1302_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_1302_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_1320_ReferenceIdeal [hReferenceIdeal : Cert.ReferenceIdeal.Facts] [hPre_pi_is_1320_ReferenceIdeal : Cert.Pre_pi_is_1320_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_1320_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_2013_ReferenceIdeal [hReferenceIdeal : Cert.ReferenceIdeal.Facts] [hPre_pi_is_2013_ReferenceIdeal : Cert.Pre_pi_is_2013_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_2013_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_2031_ReferenceIdeal [hReferenceIdeal : Cert.ReferenceIdeal.Facts] [hPre_pi_is_2031_ReferenceIdeal : Cert.Pre_pi_is_2031_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_2031_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_2103_ReferenceIdeal [hReferenceIdeal : Cert.ReferenceIdeal.Facts] [hPre_pi_is_2103_ReferenceIdeal : Cert.Pre_pi_is_2103_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_2103_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_2130_ReferenceIdeal [hReferenceIdeal : Cert.ReferenceIdeal.Facts] [hPre_pi_is_2130_ReferenceIdeal : Cert.Pre_pi_is_2130_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_2130_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_2301_ReferenceIdeal [hReferenceIdeal : Cert.ReferenceIdeal.Facts] [hPre_pi_is_2301_ReferenceIdeal : Cert.Pre_pi_is_2301_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_2301_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_2310_ReferenceIdeal [hReferenceIdeal : Cert.ReferenceIdeal.Facts] [hPre_pi_is_2310_ReferenceIdeal : Cert.Pre_pi_is_2310_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_2310_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_3012_ReferenceIdeal [hReferenceIdeal : Cert.ReferenceIdeal.Facts] [hPre_pi_is_3012_ReferenceIdeal : Cert.Pre_pi_is_3012_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_3012_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_3021_ReferenceIdeal [hReferenceIdeal : Cert.ReferenceIdeal.Facts] [hPre_pi_is_3021_ReferenceIdeal : Cert.Pre_pi_is_3021_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_3021_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_3102_ReferenceIdeal [hReferenceIdeal : Cert.ReferenceIdeal.Facts] [hPre_pi_is_3102_ReferenceIdeal : Cert.Pre_pi_is_3102_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_3102_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_3120_ReferenceIdeal [hReferenceIdeal : Cert.ReferenceIdeal.Facts] [hPre_pi_is_3120_ReferenceIdeal : Cert.Pre_pi_is_3120_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_3120_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_3201_ReferenceIdeal [hReferenceIdeal : Cert.ReferenceIdeal.Facts] [hPre_pi_is_3201_ReferenceIdeal : Cert.Pre_pi_is_3201_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_3201_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_3210_ReferenceIdeal [hReferenceIdeal : Cert.ReferenceIdeal.Facts] [hPre_pi_is_3210_ReferenceIdeal : Cert.Pre_pi_is_3210_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_3210_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pi_is_0123_Kernel : Cert.Pre_pi_is_0123_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![4, 4096, 2048]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![4, 4096, 2048]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_0132_Kernel [hKernelIdeal : Cert.KernelIdeal.Facts] [hReferenceIdeal : Cert.ReferenceIdeal.Facts] [hPre_pi_is_0132_Kernel : Cert.Pre_pi_is_0132_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_0132_Kernel m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![4, 4096, 2048]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![4, 4096, 2048]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_0213_Kernel [hKernelIdeal : Cert.KernelIdeal.Facts] [hReferenceIdeal : Cert.ReferenceIdeal.Facts] [hPre_pi_is_0213_Kernel : Cert.Pre_pi_is_0213_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_0213_Kernel m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![4, 4096, 2048]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![4, 4096, 2048]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_0231_Kernel [hKernelIdeal : Cert.KernelIdeal.Facts] [hReferenceIdeal : Cert.ReferenceIdeal.Facts] [hPre_pi_is_0231_Kernel : Cert.Pre_pi_is_0231_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_0231_Kernel m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![4, 4096, 2048]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![4, 4096, 2048]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_0312_Kernel [hKernelIdeal : Cert.KernelIdeal.Facts] [hReferenceIdeal : Cert.ReferenceIdeal.Facts] [hPre_pi_is_0312_Kernel : Cert.Pre_pi_is_0312_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_0312_Kernel m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![4, 4096, 2048]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![4, 4096, 2048]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_0321_Kernel [hKernelIdeal : Cert.KernelIdeal.Facts] [hReferenceIdeal : Cert.ReferenceIdeal.Facts] [hPre_pi_is_0321_Kernel : Cert.Pre_pi_is_0321_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_0321_Kernel m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![4, 4096, 2048]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![4, 4096, 2048]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_1023_Kernel [hKernelIdeal : Cert.KernelIdeal.Facts] [hReferenceIdeal : Cert.ReferenceIdeal.Facts] [hPre_pi_is_1023_Kernel : Cert.Pre_pi_is_1023_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_1023_Kernel m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![4, 4096, 2048]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![4, 4096, 2048]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_1032_Kernel [hKernelIdeal : Cert.KernelIdeal.Facts] [hReferenceIdeal : Cert.ReferenceIdeal.Facts] [hPre_pi_is_1032_Kernel : Cert.Pre_pi_is_1032_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_1032_Kernel m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![4, 4096, 2048]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![4, 4096, 2048]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_1203_Kernel [hKernelIdeal : Cert.KernelIdeal.Facts] [hReferenceIdeal : Cert.ReferenceIdeal.Facts] [hPre_pi_is_1203_Kernel : Cert.Pre_pi_is_1203_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_1203_Kernel m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![4, 4096, 2048]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![4, 4096, 2048]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_1230_Kernel [hKernelIdeal : Cert.KernelIdeal.Facts] [hReferenceIdeal : Cert.ReferenceIdeal.Facts] [hPre_pi_is_1230_Kernel : Cert.Pre_pi_is_1230_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_1230_Kernel m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![4, 4096, 2048]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![4, 4096, 2048]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_1302_Kernel [hKernelIdeal : Cert.KernelIdeal.Facts] [hReferenceIdeal : Cert.ReferenceIdeal.Facts] [hPre_pi_is_1302_Kernel : Cert.Pre_pi_is_1302_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_1302_Kernel m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![4, 4096, 2048]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![4, 4096, 2048]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_1320_Kernel [hKernelIdeal : Cert.KernelIdeal.Facts] [hReferenceIdeal : Cert.ReferenceIdeal.Facts] [hPre_pi_is_1320_Kernel : Cert.Pre_pi_is_1320_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_1320_Kernel m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![4, 4096, 2048]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![4, 4096, 2048]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_2013_Kernel [hKernelIdeal : Cert.KernelIdeal.Facts] [hReferenceIdeal : Cert.ReferenceIdeal.Facts] [hPre_pi_is_2013_Kernel : Cert.Pre_pi_is_2013_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_2013_Kernel m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![4, 4096, 2048]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![4, 4096, 2048]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_2031_Kernel [hKernelIdeal : Cert.KernelIdeal.Facts] [hReferenceIdeal : Cert.ReferenceIdeal.Facts] [hPre_pi_is_2031_Kernel : Cert.Pre_pi_is_2031_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_2031_Kernel m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![4, 4096, 2048]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![4, 4096, 2048]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_2103_Kernel [hKernelIdeal : Cert.KernelIdeal.Facts] [hReferenceIdeal : Cert.ReferenceIdeal.Facts] [hPre_pi_is_2103_Kernel : Cert.Pre_pi_is_2103_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_2103_Kernel m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![4, 4096, 2048]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![4, 4096, 2048]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_2130_Kernel [hKernelIdeal : Cert.KernelIdeal.Facts] [hReferenceIdeal : Cert.ReferenceIdeal.Facts] [hPre_pi_is_2130_Kernel : Cert.Pre_pi_is_2130_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_2130_Kernel m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![4, 4096, 2048]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![4, 4096, 2048]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_2301_Kernel [hKernelIdeal : Cert.KernelIdeal.Facts] [hReferenceIdeal : Cert.ReferenceIdeal.Facts] [hPre_pi_is_2301_Kernel : Cert.Pre_pi_is_2301_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_2301_Kernel m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![4, 4096, 2048]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![4, 4096, 2048]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_2310_Kernel [hKernelIdeal : Cert.KernelIdeal.Facts] [hReferenceIdeal : Cert.ReferenceIdeal.Facts] [hPre_pi_is_2310_Kernel : Cert.Pre_pi_is_2310_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_2310_Kernel m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![4, 4096, 2048]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![4, 4096, 2048]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_3012_Kernel [hKernelIdeal : Cert.KernelIdeal.Facts] [hReferenceIdeal : Cert.ReferenceIdeal.Facts] [hPre_pi_is_3012_Kernel : Cert.Pre_pi_is_3012_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_3012_Kernel m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![4, 4096, 2048]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![4, 4096, 2048]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_3021_Kernel [hKernelIdeal : Cert.KernelIdeal.Facts] [hReferenceIdeal : Cert.ReferenceIdeal.Facts] [hPre_pi_is_3021_Kernel : Cert.Pre_pi_is_3021_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_3021_Kernel m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![4, 4096, 2048]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![4, 4096, 2048]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_3102_Kernel [hKernelIdeal : Cert.KernelIdeal.Facts] [hReferenceIdeal : Cert.ReferenceIdeal.Facts] [hPre_pi_is_3102_Kernel : Cert.Pre_pi_is_3102_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_3102_Kernel m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![4, 4096, 2048]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![4, 4096, 2048]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_3120_Kernel [hKernelIdeal : Cert.KernelIdeal.Facts] [hReferenceIdeal : Cert.ReferenceIdeal.Facts] [hPre_pi_is_3120_Kernel : Cert.Pre_pi_is_3120_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_3120_Kernel m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![4, 4096, 2048]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![4, 4096, 2048]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_3201_Kernel [hKernelIdeal : Cert.KernelIdeal.Facts] [hReferenceIdeal : Cert.ReferenceIdeal.Facts] [hPre_pi_is_3201_Kernel : Cert.Pre_pi_is_3201_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_3201_Kernel m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![4, 4096, 2048]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![4, 4096, 2048]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_3210_Kernel [hKernelIdeal : Cert.KernelIdeal.Facts] [hReferenceIdeal : Cert.ReferenceIdeal.Facts] [hPre_pi_is_3210_Kernel : Cert.Pre_pi_is_3210_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_3210_Kernel m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![4, 4096, 2048]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![4, 4096, 2048]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_pi_is_0123_Kernel : Cert.Pre_pi_is_0123_Kernel.Facts) (hPre_pi_is_0132_Kernel : Cert.Pre_pi_is_0132_Kernel.Facts) (hPre_pi_is_0213_Kernel : Cert.Pre_pi_is_0213_Kernel.Facts) (hPre_pi_is_0231_Kernel : Cert.Pre_pi_is_0231_Kernel.Facts) (hPre_pi_is_0312_Kernel : Cert.Pre_pi_is_0312_Kernel.Facts) (hPre_pi_is_0321_Kernel : Cert.Pre_pi_is_0321_Kernel.Facts) (hPre_pi_is_1023_Kernel : Cert.Pre_pi_is_1023_Kernel.Facts) (hPre_pi_is_1032_Kernel : Cert.Pre_pi_is_1032_Kernel.Facts) (hPre_pi_is_1203_Kernel : Cert.Pre_pi_is_1203_Kernel.Facts) (hPre_pi_is_1230_Kernel : Cert.Pre_pi_is_1230_Kernel.Facts) (hPre_pi_is_1302_Kernel : Cert.Pre_pi_is_1302_Kernel.Facts) (hPre_pi_is_1320_Kernel : Cert.Pre_pi_is_1320_Kernel.Facts) (hPre_pi_is_2013_Kernel : Cert.Pre_pi_is_2013_Kernel.Facts) (hPre_pi_is_2031_Kernel : Cert.Pre_pi_is_2031_Kernel.Facts) (hPre_pi_is_2103_Kernel : Cert.Pre_pi_is_2103_Kernel.Facts) (hPre_pi_is_2130_Kernel : Cert.Pre_pi_is_2130_Kernel.Facts) (hPre_pi_is_2301_Kernel : Cert.Pre_pi_is_2301_Kernel.Facts) (hPre_pi_is_2310_Kernel : Cert.Pre_pi_is_2310_Kernel.Facts) (hPre_pi_is_3012_Kernel : Cert.Pre_pi_is_3012_Kernel.Facts) (hPre_pi_is_3021_Kernel : Cert.Pre_pi_is_3021_Kernel.Facts) (hPre_pi_is_3102_Kernel : Cert.Pre_pi_is_3102_Kernel.Facts) (hPre_pi_is_3120_Kernel : Cert.Pre_pi_is_3120_Kernel.Facts) (hPre_pi_is_3201_Kernel : Cert.Pre_pi_is_3201_Kernel.Facts) (hPre_pi_is_3210_Kernel : Cert.Pre_pi_is_3210_Kernel.Facts) (hPre_pi_is_0123_ReferenceIdeal : Cert.Pre_pi_is_0123_ReferenceIdeal.Facts) (hPre_pi_is_0132_ReferenceIdeal : Cert.Pre_pi_is_0132_ReferenceIdeal.Facts) (hPre_pi_is_0213_ReferenceIdeal : Cert.Pre_pi_is_0213_ReferenceIdeal.Facts) (hPre_pi_is_0231_ReferenceIdeal : Cert.Pre_pi_is_0231_ReferenceIdeal.Facts) (hPre_pi_is_0312_ReferenceIdeal : Cert.Pre_pi_is_0312_ReferenceIdeal.Facts) (hPre_pi_is_0321_ReferenceIdeal : Cert.Pre_pi_is_0321_ReferenceIdeal.Facts) (hPre_pi_is_1023_ReferenceIdeal : Cert.Pre_pi_is_1023_ReferenceIdeal.Facts) (hPre_pi_is_1032_ReferenceIdeal : Cert.Pre_pi_is_1032_ReferenceIdeal.Facts) (hPre_pi_is_1203_ReferenceIdeal : Cert.Pre_pi_is_1203_ReferenceIdeal.Facts) (hPre_pi_is_1230_ReferenceIdeal : Cert.Pre_pi_is_1230_ReferenceIdeal.Facts) (hPre_pi_is_1302_ReferenceIdeal : Cert.Pre_pi_is_1302_ReferenceIdeal.Facts) (hPre_pi_is_1320_ReferenceIdeal : Cert.Pre_pi_is_1320_ReferenceIdeal.Facts) (hPre_pi_is_2013_ReferenceIdeal : Cert.Pre_pi_is_2013_ReferenceIdeal.Facts) (hPre_pi_is_2031_ReferenceIdeal : Cert.Pre_pi_is_2031_ReferenceIdeal.Facts) (hPre_pi_is_2103_ReferenceIdeal : Cert.Pre_pi_is_2103_ReferenceIdeal.Facts) (hPre_pi_is_2130_ReferenceIdeal : Cert.Pre_pi_is_2130_ReferenceIdeal.Facts) (hPre_pi_is_2301_ReferenceIdeal : Cert.Pre_pi_is_2301_ReferenceIdeal.Facts) (hPre_pi_is_2310_ReferenceIdeal : Cert.Pre_pi_is_2310_ReferenceIdeal.Facts) (hPre_pi_is_3012_ReferenceIdeal : Cert.Pre_pi_is_3012_ReferenceIdeal.Facts) (hPre_pi_is_3021_ReferenceIdeal : Cert.Pre_pi_is_3021_ReferenceIdeal.Facts) (hPre_pi_is_3102_ReferenceIdeal : Cert.Pre_pi_is_3102_ReferenceIdeal.Facts) (hPre_pi_is_3120_ReferenceIdeal : Cert.Pre_pi_is_3120_ReferenceIdeal.Facts) (hPre_pi_is_3201_ReferenceIdeal : Cert.Pre_pi_is_3201_ReferenceIdeal.Facts) (hPre_pi_is_3210_ReferenceIdeal : Cert.Pre_pi_is_3210_ReferenceIdeal.Facts),
    quiescent_Kernel (hKernel := hKernel) (hPre_pi_is_0123_Kernel := hPre_pi_is_0123_Kernel)
    ∧ quiescent_Kernel_pre_pi_is_0132_Kernel (hKernel := hKernel) (hPre_pi_is_0132_Kernel := hPre_pi_is_0132_Kernel)
    ∧ quiescent_Kernel_pre_pi_is_0213_Kernel (hKernel := hKernel) (hPre_pi_is_0213_Kernel := hPre_pi_is_0213_Kernel)
    ∧ quiescent_Kernel_pre_pi_is_0231_Kernel (hKernel := hKernel) (hPre_pi_is_0231_Kernel := hPre_pi_is_0231_Kernel)
    ∧ quiescent_Kernel_pre_pi_is_0312_Kernel (hKernel := hKernel) (hPre_pi_is_0312_Kernel := hPre_pi_is_0312_Kernel)
    ∧ quiescent_Kernel_pre_pi_is_0321_Kernel (hKernel := hKernel) (hPre_pi_is_0321_Kernel := hPre_pi_is_0321_Kernel)
    ∧ quiescent_Kernel_pre_pi_is_1023_Kernel (hKernel := hKernel) (hPre_pi_is_1023_Kernel := hPre_pi_is_1023_Kernel)
    ∧ quiescent_Kernel_pre_pi_is_1032_Kernel (hKernel := hKernel) (hPre_pi_is_1032_Kernel := hPre_pi_is_1032_Kernel)
    ∧ quiescent_Kernel_pre_pi_is_1203_Kernel (hKernel := hKernel) (hPre_pi_is_1203_Kernel := hPre_pi_is_1203_Kernel)
    ∧ quiescent_Kernel_pre_pi_is_1230_Kernel (hKernel := hKernel) (hPre_pi_is_1230_Kernel := hPre_pi_is_1230_Kernel)
    ∧ quiescent_Kernel_pre_pi_is_1302_Kernel (hKernel := hKernel) (hPre_pi_is_1302_Kernel := hPre_pi_is_1302_Kernel)
    ∧ quiescent_Kernel_pre_pi_is_1320_Kernel (hKernel := hKernel) (hPre_pi_is_1320_Kernel := hPre_pi_is_1320_Kernel)
    ∧ quiescent_Kernel_pre_pi_is_2013_Kernel (hKernel := hKernel) (hPre_pi_is_2013_Kernel := hPre_pi_is_2013_Kernel)
    ∧ quiescent_Kernel_pre_pi_is_2031_Kernel (hKernel := hKernel) (hPre_pi_is_2031_Kernel := hPre_pi_is_2031_Kernel)
    ∧ quiescent_Kernel_pre_pi_is_2103_Kernel (hKernel := hKernel) (hPre_pi_is_2103_Kernel := hPre_pi_is_2103_Kernel)
    ∧ quiescent_Kernel_pre_pi_is_2130_Kernel (hKernel := hKernel) (hPre_pi_is_2130_Kernel := hPre_pi_is_2130_Kernel)
    ∧ quiescent_Kernel_pre_pi_is_2301_Kernel (hKernel := hKernel) (hPre_pi_is_2301_Kernel := hPre_pi_is_2301_Kernel)
    ∧ quiescent_Kernel_pre_pi_is_2310_Kernel (hKernel := hKernel) (hPre_pi_is_2310_Kernel := hPre_pi_is_2310_Kernel)
    ∧ quiescent_Kernel_pre_pi_is_3012_Kernel (hKernel := hKernel) (hPre_pi_is_3012_Kernel := hPre_pi_is_3012_Kernel)
    ∧ quiescent_Kernel_pre_pi_is_3021_Kernel (hKernel := hKernel) (hPre_pi_is_3021_Kernel := hPre_pi_is_3021_Kernel)
    ∧ quiescent_Kernel_pre_pi_is_3102_Kernel (hKernel := hKernel) (hPre_pi_is_3102_Kernel := hPre_pi_is_3102_Kernel)
    ∧ quiescent_Kernel_pre_pi_is_3120_Kernel (hKernel := hKernel) (hPre_pi_is_3120_Kernel := hPre_pi_is_3120_Kernel)
    ∧ quiescent_Kernel_pre_pi_is_3201_Kernel (hKernel := hKernel) (hPre_pi_is_3201_Kernel := hPre_pi_is_3201_Kernel)
    ∧ quiescent_Kernel_pre_pi_is_3210_Kernel (hKernel := hKernel) (hPre_pi_is_3210_Kernel := hPre_pi_is_3210_Kernel)
    ∧ quiescent_KernelIdeal (hKernelIdeal := hKernelIdeal) (hPre_pi_is_0123_Kernel := hPre_pi_is_0123_Kernel)
    ∧ quiescent_KernelIdeal_pre_pi_is_0132_Kernel (hKernelIdeal := hKernelIdeal) (hPre_pi_is_0132_Kernel := hPre_pi_is_0132_Kernel)
    ∧ quiescent_KernelIdeal_pre_pi_is_0213_Kernel (hKernelIdeal := hKernelIdeal) (hPre_pi_is_0213_Kernel := hPre_pi_is_0213_Kernel)
    ∧ quiescent_KernelIdeal_pre_pi_is_0231_Kernel (hKernelIdeal := hKernelIdeal) (hPre_pi_is_0231_Kernel := hPre_pi_is_0231_Kernel)
    ∧ quiescent_KernelIdeal_pre_pi_is_0312_Kernel (hKernelIdeal := hKernelIdeal) (hPre_pi_is_0312_Kernel := hPre_pi_is_0312_Kernel)
    ∧ quiescent_KernelIdeal_pre_pi_is_0321_Kernel (hKernelIdeal := hKernelIdeal) (hPre_pi_is_0321_Kernel := hPre_pi_is_0321_Kernel)
    ∧ quiescent_KernelIdeal_pre_pi_is_1023_Kernel (hKernelIdeal := hKernelIdeal) (hPre_pi_is_1023_Kernel := hPre_pi_is_1023_Kernel)
    ∧ quiescent_KernelIdeal_pre_pi_is_1032_Kernel (hKernelIdeal := hKernelIdeal) (hPre_pi_is_1032_Kernel := hPre_pi_is_1032_Kernel)
    ∧ quiescent_KernelIdeal_pre_pi_is_1203_Kernel (hKernelIdeal := hKernelIdeal) (hPre_pi_is_1203_Kernel := hPre_pi_is_1203_Kernel)
    ∧ quiescent_KernelIdeal_pre_pi_is_1230_Kernel (hKernelIdeal := hKernelIdeal) (hPre_pi_is_1230_Kernel := hPre_pi_is_1230_Kernel)
    ∧ quiescent_KernelIdeal_pre_pi_is_1302_Kernel (hKernelIdeal := hKernelIdeal) (hPre_pi_is_1302_Kernel := hPre_pi_is_1302_Kernel)
    ∧ quiescent_KernelIdeal_pre_pi_is_1320_Kernel (hKernelIdeal := hKernelIdeal) (hPre_pi_is_1320_Kernel := hPre_pi_is_1320_Kernel)
    ∧ quiescent_KernelIdeal_pre_pi_is_2013_Kernel (hKernelIdeal := hKernelIdeal) (hPre_pi_is_2013_Kernel := hPre_pi_is_2013_Kernel)
    ∧ quiescent_KernelIdeal_pre_pi_is_2031_Kernel (hKernelIdeal := hKernelIdeal) (hPre_pi_is_2031_Kernel := hPre_pi_is_2031_Kernel)
    ∧ quiescent_KernelIdeal_pre_pi_is_2103_Kernel (hKernelIdeal := hKernelIdeal) (hPre_pi_is_2103_Kernel := hPre_pi_is_2103_Kernel)
    ∧ quiescent_KernelIdeal_pre_pi_is_2130_Kernel (hKernelIdeal := hKernelIdeal) (hPre_pi_is_2130_Kernel := hPre_pi_is_2130_Kernel)
    ∧ quiescent_KernelIdeal_pre_pi_is_2301_Kernel (hKernelIdeal := hKernelIdeal) (hPre_pi_is_2301_Kernel := hPre_pi_is_2301_Kernel)
    ∧ quiescent_KernelIdeal_pre_pi_is_2310_Kernel (hKernelIdeal := hKernelIdeal) (hPre_pi_is_2310_Kernel := hPre_pi_is_2310_Kernel)
    ∧ quiescent_KernelIdeal_pre_pi_is_3012_Kernel (hKernelIdeal := hKernelIdeal) (hPre_pi_is_3012_Kernel := hPre_pi_is_3012_Kernel)
    ∧ quiescent_KernelIdeal_pre_pi_is_3021_Kernel (hKernelIdeal := hKernelIdeal) (hPre_pi_is_3021_Kernel := hPre_pi_is_3021_Kernel)
    ∧ quiescent_KernelIdeal_pre_pi_is_3102_Kernel (hKernelIdeal := hKernelIdeal) (hPre_pi_is_3102_Kernel := hPre_pi_is_3102_Kernel)
    ∧ quiescent_KernelIdeal_pre_pi_is_3120_Kernel (hKernelIdeal := hKernelIdeal) (hPre_pi_is_3120_Kernel := hPre_pi_is_3120_Kernel)
    ∧ quiescent_KernelIdeal_pre_pi_is_3201_Kernel (hKernelIdeal := hKernelIdeal) (hPre_pi_is_3201_Kernel := hPre_pi_is_3201_Kernel)
    ∧ quiescent_KernelIdeal_pre_pi_is_3210_Kernel (hKernelIdeal := hKernelIdeal) (hPre_pi_is_3210_Kernel := hPre_pi_is_3210_Kernel)
    ∧ quiescent_ReferenceIdeal (hReferenceIdeal := hReferenceIdeal)
    ∧ quiescent_ReferenceIdeal_pre_pi_is_0123_ReferenceIdeal (hReferenceIdeal := hReferenceIdeal) (hPre_pi_is_0123_ReferenceIdeal := hPre_pi_is_0123_ReferenceIdeal)
    ∧ quiescent_ReferenceIdeal_pre_pi_is_0132_ReferenceIdeal (hReferenceIdeal := hReferenceIdeal) (hPre_pi_is_0132_ReferenceIdeal := hPre_pi_is_0132_ReferenceIdeal)
    ∧ quiescent_ReferenceIdeal_pre_pi_is_0213_ReferenceIdeal (hReferenceIdeal := hReferenceIdeal) (hPre_pi_is_0213_ReferenceIdeal := hPre_pi_is_0213_ReferenceIdeal)
    ∧ quiescent_ReferenceIdeal_pre_pi_is_0231_ReferenceIdeal (hReferenceIdeal := hReferenceIdeal) (hPre_pi_is_0231_ReferenceIdeal := hPre_pi_is_0231_ReferenceIdeal)
    ∧ quiescent_ReferenceIdeal_pre_pi_is_0312_ReferenceIdeal (hReferenceIdeal := hReferenceIdeal) (hPre_pi_is_0312_ReferenceIdeal := hPre_pi_is_0312_ReferenceIdeal)
    ∧ quiescent_ReferenceIdeal_pre_pi_is_0321_ReferenceIdeal (hReferenceIdeal := hReferenceIdeal) (hPre_pi_is_0321_ReferenceIdeal := hPre_pi_is_0321_ReferenceIdeal)
    ∧ quiescent_ReferenceIdeal_pre_pi_is_1023_ReferenceIdeal (hReferenceIdeal := hReferenceIdeal) (hPre_pi_is_1023_ReferenceIdeal := hPre_pi_is_1023_ReferenceIdeal)
    ∧ quiescent_ReferenceIdeal_pre_pi_is_1032_ReferenceIdeal (hReferenceIdeal := hReferenceIdeal) (hPre_pi_is_1032_ReferenceIdeal := hPre_pi_is_1032_ReferenceIdeal)
    ∧ quiescent_ReferenceIdeal_pre_pi_is_1203_ReferenceIdeal (hReferenceIdeal := hReferenceIdeal) (hPre_pi_is_1203_ReferenceIdeal := hPre_pi_is_1203_ReferenceIdeal)
    ∧ quiescent_ReferenceIdeal_pre_pi_is_1230_ReferenceIdeal (hReferenceIdeal := hReferenceIdeal) (hPre_pi_is_1230_ReferenceIdeal := hPre_pi_is_1230_ReferenceIdeal)
    ∧ quiescent_ReferenceIdeal_pre_pi_is_1302_ReferenceIdeal (hReferenceIdeal := hReferenceIdeal) (hPre_pi_is_1302_ReferenceIdeal := hPre_pi_is_1302_ReferenceIdeal)
    ∧ quiescent_ReferenceIdeal_pre_pi_is_1320_ReferenceIdeal (hReferenceIdeal := hReferenceIdeal) (hPre_pi_is_1320_ReferenceIdeal := hPre_pi_is_1320_ReferenceIdeal)
    ∧ quiescent_ReferenceIdeal_pre_pi_is_2013_ReferenceIdeal (hReferenceIdeal := hReferenceIdeal) (hPre_pi_is_2013_ReferenceIdeal := hPre_pi_is_2013_ReferenceIdeal)
    ∧ quiescent_ReferenceIdeal_pre_pi_is_2031_ReferenceIdeal (hReferenceIdeal := hReferenceIdeal) (hPre_pi_is_2031_ReferenceIdeal := hPre_pi_is_2031_ReferenceIdeal)
    ∧ quiescent_ReferenceIdeal_pre_pi_is_2103_ReferenceIdeal (hReferenceIdeal := hReferenceIdeal) (hPre_pi_is_2103_ReferenceIdeal := hPre_pi_is_2103_ReferenceIdeal)
    ∧ quiescent_ReferenceIdeal_pre_pi_is_2130_ReferenceIdeal (hReferenceIdeal := hReferenceIdeal) (hPre_pi_is_2130_ReferenceIdeal := hPre_pi_is_2130_ReferenceIdeal)
    ∧ quiescent_ReferenceIdeal_pre_pi_is_2301_ReferenceIdeal (hReferenceIdeal := hReferenceIdeal) (hPre_pi_is_2301_ReferenceIdeal := hPre_pi_is_2301_ReferenceIdeal)
    ∧ quiescent_ReferenceIdeal_pre_pi_is_2310_ReferenceIdeal (hReferenceIdeal := hReferenceIdeal) (hPre_pi_is_2310_ReferenceIdeal := hPre_pi_is_2310_ReferenceIdeal)
    ∧ quiescent_ReferenceIdeal_pre_pi_is_3012_ReferenceIdeal (hReferenceIdeal := hReferenceIdeal) (hPre_pi_is_3012_ReferenceIdeal := hPre_pi_is_3012_ReferenceIdeal)
    ∧ quiescent_ReferenceIdeal_pre_pi_is_3021_ReferenceIdeal (hReferenceIdeal := hReferenceIdeal) (hPre_pi_is_3021_ReferenceIdeal := hPre_pi_is_3021_ReferenceIdeal)
    ∧ quiescent_ReferenceIdeal_pre_pi_is_3102_ReferenceIdeal (hReferenceIdeal := hReferenceIdeal) (hPre_pi_is_3102_ReferenceIdeal := hPre_pi_is_3102_ReferenceIdeal)
    ∧ quiescent_ReferenceIdeal_pre_pi_is_3120_ReferenceIdeal (hReferenceIdeal := hReferenceIdeal) (hPre_pi_is_3120_ReferenceIdeal := hPre_pi_is_3120_ReferenceIdeal)
    ∧ quiescent_ReferenceIdeal_pre_pi_is_3201_ReferenceIdeal (hReferenceIdeal := hReferenceIdeal) (hPre_pi_is_3201_ReferenceIdeal := hPre_pi_is_3201_ReferenceIdeal)
    ∧ quiescent_ReferenceIdeal_pre_pi_is_3210_ReferenceIdeal (hReferenceIdeal := hReferenceIdeal) (hPre_pi_is_3210_ReferenceIdeal := hPre_pi_is_3210_ReferenceIdeal)
    ∧ preserves_Kernel_KernelIdeal
    ∧ algebraic_KernelIdeal_ReferenceIdeal (hKernelIdeal := hKernelIdeal) (hReferenceIdeal := hReferenceIdeal) (hPre_pi_is_0123_Kernel := hPre_pi_is_0123_Kernel)
    ∧ algebraic_KernelIdeal_ReferenceIdeal_pre_pi_is_0132_Kernel (hKernelIdeal := hKernelIdeal) (hReferenceIdeal := hReferenceIdeal) (hPre_pi_is_0132_Kernel := hPre_pi_is_0132_Kernel)
    ∧ algebraic_KernelIdeal_ReferenceIdeal_pre_pi_is_0213_Kernel (hKernelIdeal := hKernelIdeal) (hReferenceIdeal := hReferenceIdeal) (hPre_pi_is_0213_Kernel := hPre_pi_is_0213_Kernel)
    ∧ algebraic_KernelIdeal_ReferenceIdeal_pre_pi_is_0231_Kernel (hKernelIdeal := hKernelIdeal) (hReferenceIdeal := hReferenceIdeal) (hPre_pi_is_0231_Kernel := hPre_pi_is_0231_Kernel)
    ∧ algebraic_KernelIdeal_ReferenceIdeal_pre_pi_is_0312_Kernel (hKernelIdeal := hKernelIdeal) (hReferenceIdeal := hReferenceIdeal) (hPre_pi_is_0312_Kernel := hPre_pi_is_0312_Kernel)
    ∧ algebraic_KernelIdeal_ReferenceIdeal_pre_pi_is_0321_Kernel (hKernelIdeal := hKernelIdeal) (hReferenceIdeal := hReferenceIdeal) (hPre_pi_is_0321_Kernel := hPre_pi_is_0321_Kernel)
    ∧ algebraic_KernelIdeal_ReferenceIdeal_pre_pi_is_1023_Kernel (hKernelIdeal := hKernelIdeal) (hReferenceIdeal := hReferenceIdeal) (hPre_pi_is_1023_Kernel := hPre_pi_is_1023_Kernel)
    ∧ algebraic_KernelIdeal_ReferenceIdeal_pre_pi_is_1032_Kernel (hKernelIdeal := hKernelIdeal) (hReferenceIdeal := hReferenceIdeal) (hPre_pi_is_1032_Kernel := hPre_pi_is_1032_Kernel)
    ∧ algebraic_KernelIdeal_ReferenceIdeal_pre_pi_is_1203_Kernel (hKernelIdeal := hKernelIdeal) (hReferenceIdeal := hReferenceIdeal) (hPre_pi_is_1203_Kernel := hPre_pi_is_1203_Kernel)
    ∧ algebraic_KernelIdeal_ReferenceIdeal_pre_pi_is_1230_Kernel (hKernelIdeal := hKernelIdeal) (hReferenceIdeal := hReferenceIdeal) (hPre_pi_is_1230_Kernel := hPre_pi_is_1230_Kernel)
    ∧ algebraic_KernelIdeal_ReferenceIdeal_pre_pi_is_1302_Kernel (hKernelIdeal := hKernelIdeal) (hReferenceIdeal := hReferenceIdeal) (hPre_pi_is_1302_Kernel := hPre_pi_is_1302_Kernel)
    ∧ algebraic_KernelIdeal_ReferenceIdeal_pre_pi_is_1320_Kernel (hKernelIdeal := hKernelIdeal) (hReferenceIdeal := hReferenceIdeal) (hPre_pi_is_1320_Kernel := hPre_pi_is_1320_Kernel)
    ∧ algebraic_KernelIdeal_ReferenceIdeal_pre_pi_is_2013_Kernel (hKernelIdeal := hKernelIdeal) (hReferenceIdeal := hReferenceIdeal) (hPre_pi_is_2013_Kernel := hPre_pi_is_2013_Kernel)
    ∧ algebraic_KernelIdeal_ReferenceIdeal_pre_pi_is_2031_Kernel (hKernelIdeal := hKernelIdeal) (hReferenceIdeal := hReferenceIdeal) (hPre_pi_is_2031_Kernel := hPre_pi_is_2031_Kernel)
    ∧ algebraic_KernelIdeal_ReferenceIdeal_pre_pi_is_2103_Kernel (hKernelIdeal := hKernelIdeal) (hReferenceIdeal := hReferenceIdeal) (hPre_pi_is_2103_Kernel := hPre_pi_is_2103_Kernel)
    ∧ algebraic_KernelIdeal_ReferenceIdeal_pre_pi_is_2130_Kernel (hKernelIdeal := hKernelIdeal) (hReferenceIdeal := hReferenceIdeal) (hPre_pi_is_2130_Kernel := hPre_pi_is_2130_Kernel)
    ∧ algebraic_KernelIdeal_ReferenceIdeal_pre_pi_is_2301_Kernel (hKernelIdeal := hKernelIdeal) (hReferenceIdeal := hReferenceIdeal) (hPre_pi_is_2301_Kernel := hPre_pi_is_2301_Kernel)
    ∧ algebraic_KernelIdeal_ReferenceIdeal_pre_pi_is_2310_Kernel (hKernelIdeal := hKernelIdeal) (hReferenceIdeal := hReferenceIdeal) (hPre_pi_is_2310_Kernel := hPre_pi_is_2310_Kernel)
    ∧ algebraic_KernelIdeal_ReferenceIdeal_pre_pi_is_3012_Kernel (hKernelIdeal := hKernelIdeal) (hReferenceIdeal := hReferenceIdeal) (hPre_pi_is_3012_Kernel := hPre_pi_is_3012_Kernel)
    ∧ algebraic_KernelIdeal_ReferenceIdeal_pre_pi_is_3021_Kernel (hKernelIdeal := hKernelIdeal) (hReferenceIdeal := hReferenceIdeal) (hPre_pi_is_3021_Kernel := hPre_pi_is_3021_Kernel)
    ∧ algebraic_KernelIdeal_ReferenceIdeal_pre_pi_is_3102_Kernel (hKernelIdeal := hKernelIdeal) (hReferenceIdeal := hReferenceIdeal) (hPre_pi_is_3102_Kernel := hPre_pi_is_3102_Kernel)
    ∧ algebraic_KernelIdeal_ReferenceIdeal_pre_pi_is_3120_Kernel (hKernelIdeal := hKernelIdeal) (hReferenceIdeal := hReferenceIdeal) (hPre_pi_is_3120_Kernel := hPre_pi_is_3120_Kernel)
    ∧ algebraic_KernelIdeal_ReferenceIdeal_pre_pi_is_3201_Kernel (hKernelIdeal := hKernelIdeal) (hReferenceIdeal := hReferenceIdeal) (hPre_pi_is_3201_Kernel := hPre_pi_is_3201_Kernel)
    ∧ algebraic_KernelIdeal_ReferenceIdeal_pre_pi_is_3210_Kernel (hKernelIdeal := hKernelIdeal) (hReferenceIdeal := hReferenceIdeal) (hPre_pi_is_3210_Kernel := hPre_pi_is_3210_Kernel)
-- ==== Pre_pi_is_0123_Kernel.lean ====
abbrev S1x4096x2048 : Shape := ⟨3, ![1, 4096, 2048]⟩
abbrev S4 : Shape := ⟨1, ![4]⟩

class Facts : Prop where

variable [Facts]

noncomputable abbrev lit0 : Fin 4 → BitVec 32 := fun
  | 0 => 0#32 | 1 => 1#32 | 2 => 2#32 | 3 => 3#32
  | _ => 0#32

def fn {F : FTy → Type} [FloatOps F] (main_arg0 : FVec F S1x4096x2048 .f32) (main_arg1 : IVec S4 32) : IVec S4 1 :=
  let main_c : IVec S4 32 := fun i => lit0 (S4.rowMajor i)
  let main_v0 : IVec S4 1 := cmpi .eq main_arg1 main_c
  main_v0
-- ==== Pre_pi_is_0123_ReferenceIdeal.lean ====
abbrev S4x4096x2048 : Shape := ⟨3, ![4, 4096, 2048]⟩
abbrev S4 : Shape := ⟨1, ![4]⟩

class Facts : Prop where

variable [Facts]

noncomputable abbrev lit0 : Fin 4 → BitVec 32 := fun
  | 0 => 0#32 | 1 => 1#32 | 2 => 2#32 | 3 => 3#32
  | _ => 0#32

def fn {F : FTy → Type} [FloatOps F] (main_arg0 : FVec F S4x4096x2048 .f32) (main_arg1 : IVec S4 32) : IVec S4 1 :=
  let main_c : IVec S4 32 := fun i => lit0 (S4.rowMajor i)
  let main_v0 : IVec S4 1 := cmpi .eq main_arg1 main_c
  main_v0
-- ==== Pre_pi_is_0132_Kernel.lean ====
abbrev S1x4096x2048 : Shape := ⟨3, ![1, 4096, 2048]⟩
abbrev S4 : Shape := ⟨1, ![4]⟩

class Facts : Prop where

variable [Facts]

noncomputable abbrev lit0 : Fin 4 → BitVec 32 := fun
  | 0 => 0#32 | 1 => 1#32 | 2 => 3#32 | 3 => 2#32
  | _ => 0#32

def fn {F : FTy → Type} [FloatOps F] (main_arg0 : FVec F S1x4096x2048 .f32) (main_arg1 : IVec S4 32) : IVec S4 1 :=
  let main_c : IVec S4 32 := fun i => lit0 (S4.rowMajor i)
  let main_v0 : IVec S4 1 := cmpi .eq main_arg1 main_c
  main_v0
-- ==== Pre_pi_is_0132_ReferenceIdeal.lean ====
abbrev S4x4096x2048 : Shape := ⟨3, ![4, 4096, 2048]⟩
abbrev S4 : Shape := ⟨1, ![4]⟩

class Facts : Prop where

variable [Facts]

noncomputable abbrev lit0 : Fin 4 → BitVec 32 := fun
  | 0 => 0#32 | 1 => 1#32 | 2 => 3#32 | 3 => 2#32
  | _ => 0#32

def fn {F : FTy → Type} [FloatOps F] (main_arg0 : FVec F S4x4096x2048 .f32) (main_arg1 : IVec S4 32) : IVec S4 1 :=
  let main_c : IVec S4 32 := fun i => lit0 (S4.rowMajor i)
  let main_v0 : IVec S4 1 := cmpi .eq main_arg1 main_c
  main_v0
-- ==== Pre_pi_is_0213_Kernel.lean ====
abbrev S1x4096x2048 : Shape := ⟨3, ![1, 4096, 2048]⟩
abbrev S4 : Shape := ⟨1, ![4]⟩

class Facts : Prop where

variable [Facts]

noncomputable abbrev lit0 : Fin 4 → BitVec 32 := fun
  | 0 => 0#32 | 1 => 2#32 | 2 => 1#32 | 3 => 3#32
  | _ => 0#32

def fn {F : FTy → Type} [FloatOps F] (main_arg0 : FVec F S1x4096x2048 .f32) (main_arg1 : IVec S4 32) : IVec S4 1 :=
  let main_c : IVec S4 32 := fun i => lit0 (S4.rowMajor i)
  let main_v0 : IVec S4 1 := cmpi .eq main_arg1 main_c
  main_v0
-- ==== Pre_pi_is_0213_ReferenceIdeal.lean ====
abbrev S4x4096x2048 : Shape := ⟨3, ![4, 4096, 2048]⟩
abbrev S4 : Shape := ⟨1, ![4]⟩

class Facts : Prop where

variable [Facts]

noncomputable abbrev lit0 : Fin 4 → BitVec 32 := fun
  | 0 => 0#32 | 1 => 2#32 | 2 => 1#32 | 3 => 3#32
  | _ => 0#32

def fn {F : FTy → Type} [FloatOps F] (main_arg0 : FVec F S4x4096x2048 .f32) (main_arg1 : IVec S4 32) : IVec S4 1 :=
  let main_c : IVec S4 32 := fun i => lit0 (S4.rowMajor i)
  let main_v0 : IVec S4 1 := cmpi .eq main_arg1 main_c
  main_v0
-- ==== Pre_pi_is_0231_Kernel.lean ====
abbrev S1x4096x2048 : Shape := ⟨3, ![1, 4096, 2048]⟩
abbrev S4 : Shape := ⟨1, ![4]⟩

class Facts : Prop where

variable [Facts]

noncomputable abbrev lit0 : Fin 4 → BitVec 32 := fun
  | 0 => 0#32 | 1 => 2#32 | 2 => 3#32 | 3 => 1#32
  | _ => 0#32

def fn {F : FTy → Type} [FloatOps F] (main_arg0 : FVec F S1x4096x2048 .f32) (main_arg1 : IVec S4 32) : IVec S4 1 :=
  let main_c : IVec S4 32 := fun i => lit0 (S4.rowMajor i)
  let main_v0 : IVec S4 1 := cmpi .eq main_arg1 main_c
  main_v0
-- ==== Pre_pi_is_0231_ReferenceIdeal.lean ====
abbrev S4x4096x2048 : Shape := ⟨3, ![4, 4096, 2048]⟩
abbrev S4 : Shape := ⟨1, ![4]⟩

class Facts : Prop where

variable [Facts]

noncomputable abbrev lit0 : Fin 4 → BitVec 32 := fun
  | 0 => 0#32 | 1 => 2#32 | 2 => 3#32 | 3 => 1#32
  | _ => 0#32

def fn {F : FTy → Type} [FloatOps F] (main_arg0 : FVec F S4x4096x2048 .f32) (main_arg1 : IVec S4 32) : IVec S4 1 :=
  let main_c : IVec S4 32 := fun i => lit0 (S4.rowMajor i)
  let main_v0 : IVec S4 1 := cmpi .eq main_arg1 main_c
  main_v0
-- ==== Pre_pi_is_0312_Kernel.lean ====
abbrev S1x4096x2048 : Shape := ⟨3, ![1, 4096, 2048]⟩
abbrev S4 : Shape := ⟨1, ![4]⟩

class Facts : Prop where

variable [Facts]

noncomputable abbrev lit0 : Fin 4 → BitVec 32 := fun
  | 0 => 0#32 | 1 => 3#32 | 2 => 1#32 | 3 => 2#32
  | _ => 0#32

def fn {F : FTy → Type} [FloatOps F] (main_arg0 : FVec F S1x4096x2048 .f32) (main_arg1 : IVec S4 32) : IVec S4 1 :=
  let main_c : IVec S4 32 := fun i => lit0 (S4.rowMajor i)
  let main_v0 : IVec S4 1 := cmpi .eq main_arg1 main_c
  main_v0
-- ==== Pre_pi_is_0312_ReferenceIdeal.lean ====
abbrev S4x4096x2048 : Shape := ⟨3, ![4, 4096, 2048]⟩
abbrev S4 : Shape := ⟨1, ![4]⟩

class Facts : Prop where

variable [Facts]

noncomputable abbrev lit0 : Fin 4 → BitVec 32 := fun
  | 0 => 0#32 | 1 => 3#32 | 2 => 1#32 | 3 => 2#32
  | _ => 0#32

def fn {F : FTy → Type} [FloatOps F] (main_arg0 : FVec F S4x4096x2048 .f32) (main_arg1 : IVec S4 32) : IVec S4 1 :=
  let main_c : IVec S4 32 := fun i => lit0 (S4.rowMajor i)
  let main_v0 : IVec S4 1 := cmpi .eq main_arg1 main_c
  main_v0
-- ==== Pre_pi_is_0321_Kernel.lean ====
abbrev S1x4096x2048 : Shape := ⟨3, ![1, 4096, 2048]⟩
abbrev S4 : Shape := ⟨1, ![4]⟩

class Facts : Prop where

variable [Facts]

noncomputable abbrev lit0 : Fin 4 → BitVec 32 := fun
  | 0 => 0#32 | 1 => 3#32 | 2 => 2#32 | 3 => 1#32
  | _ => 0#32

def fn {F : FTy → Type} [FloatOps F] (main_arg0 : FVec F S1x4096x2048 .f32) (main_arg1 : IVec S4 32) : IVec S4 1 :=
  let main_c : IVec S4 32 := fun i => lit0 (S4.rowMajor i)
  let main_v0 : IVec S4 1 := cmpi .eq main_arg1 main_c
  main_v0
-- ==== Pre_pi_is_0321_ReferenceIdeal.lean ====
abbrev S4x4096x2048 : Shape := ⟨3, ![4, 4096, 2048]⟩
abbrev S4 : Shape := ⟨1, ![4]⟩

class Facts : Prop where

variable [Facts]

noncomputable abbrev lit0 : Fin 4 → BitVec 32 := fun
  | 0 => 0#32 | 1 => 3#32 | 2 => 2#32 | 3 => 1#32
  | _ => 0#32

def fn {F : FTy → Type} [FloatOps F] (main_arg0 : FVec F S4x4096x2048 .f32) (main_arg1 : IVec S4 32) : IVec S4 1 :=
  let main_c : IVec S4 32 := fun i => lit0 (S4.rowMajor i)
  let main_v0 : IVec S4 1 := cmpi .eq main_arg1 main_c
  main_v0
-- ==== Pre_pi_is_1023_Kernel.lean ====
abbrev S1x4096x2048 : Shape := ⟨3, ![1, 4096, 2048]⟩
abbrev S4 : Shape := ⟨1, ![4]⟩

class Facts : Prop where

variable [Facts]

noncomputable abbrev lit0 : Fin 4 → BitVec 32 := fun
  | 0 => 1#32 | 1 => 0#32 | 2 => 2#32 | 3 => 3#32
  | _ => 0#32

def fn {F : FTy → Type} [FloatOps F] (main_arg0 : FVec F S1x4096x2048 .f32) (main_arg1 : IVec S4 32) : IVec S4 1 :=
  let main_c : IVec S4 32 := fun i => lit0 (S4.rowMajor i)
  let main_v0 : IVec S4 1 := cmpi .eq main_arg1 main_c
  main_v0
-- ==== Pre_pi_is_1023_ReferenceIdeal.lean ====
abbrev S4x4096x2048 : Shape := ⟨3, ![4, 4096, 2048]⟩
abbrev S4 : Shape := ⟨1, ![4]⟩

class Facts : Prop where

variable [Facts]

noncomputable abbrev lit0 : Fin 4 → BitVec 32 := fun
  | 0 => 1#32 | 1 => 0#32 | 2 => 2#32 | 3 => 3#32
  | _ => 0#32

def fn {F : FTy → Type} [FloatOps F] (main_arg0 : FVec F S4x4096x2048 .f32) (main_arg1 : IVec S4 32) : IVec S4 1 :=
  let main_c : IVec S4 32 := fun i => lit0 (S4.rowMajor i)
  let main_v0 : IVec S4 1 := cmpi .eq main_arg1 main_c
  main_v0
-- ==== Pre_pi_is_1032_Kernel.lean ====
abbrev S1x4096x2048 : Shape := ⟨3, ![1, 4096, 2048]⟩
abbrev S4 : Shape := ⟨1, ![4]⟩

class Facts : Prop where

variable [Facts]

noncomputable abbrev lit0 : Fin 4 → BitVec 32 := fun
  | 0 => 1#32 | 1 => 0#32 | 2 => 3#32 | 3 => 2#32
  | _ => 0#32

def fn {F : FTy → Type} [FloatOps F] (main_arg0 : FVec F S1x4096x2048 .f32) (main_arg1 : IVec S4 32) : IVec S4 1 :=
  let main_c : IVec S4 32 := fun i => lit0 (S4.rowMajor i)
  let main_v0 : IVec S4 1 := cmpi .eq main_arg1 main_c
  main_v0
-- ==== Pre_pi_is_1032_ReferenceIdeal.lean ====
abbrev S4x4096x2048 : Shape := ⟨3, ![4, 4096, 2048]⟩
abbrev S4 : Shape := ⟨1, ![4]⟩

class Facts : Prop where

variable [Facts]

noncomputable abbrev lit0 : Fin 4 → BitVec 32 := fun
  | 0 => 1#32 | 1 => 0#32 | 2 => 3#32 | 3 => 2#32
  | _ => 0#32

def fn {F : FTy → Type} [FloatOps F] (main_arg0 : FVec F S4x4096x2048 .f32) (main_arg1 : IVec S4 32) : IVec S4 1 :=
  let main_c : IVec S4 32 := fun i => lit0 (S4.rowMajor i)
  let main_v0 : IVec S4 1 := cmpi .eq main_arg1 main_c
  main_v0
-- ==== Pre_pi_is_1203_Kernel.lean ====
abbrev S1x4096x2048 : Shape := ⟨3, ![1, 4096, 2048]⟩
abbrev S4 : Shape := ⟨1, ![4]⟩

class Facts : Prop where

variable [Facts]

noncomputable abbrev lit0 : Fin 4 → BitVec 32 := fun
  | 0 => 1#32 | 1 => 2#32 | 2 => 0#32 | 3 => 3#32
  | _ => 0#32

def fn {F : FTy → Type} [FloatOps F] (main_arg0 : FVec F S1x4096x2048 .f32) (main_arg1 : IVec S4 32) : IVec S4 1 :=
  let main_c : IVec S4 32 := fun i => lit0 (S4.rowMajor i)
  let main_v0 : IVec S4 1 := cmpi .eq main_arg1 main_c
  main_v0
-- ==== Pre_pi_is_1203_ReferenceIdeal.lean ====
abbrev S4x4096x2048 : Shape := ⟨3, ![4, 4096, 2048]⟩
abbrev S4 : Shape := ⟨1, ![4]⟩

class Facts : Prop where

variable [Facts]

noncomputable abbrev lit0 : Fin 4 → BitVec 32 := fun
  | 0 => 1#32 | 1 => 2#32 | 2 => 0#32 | 3 => 3#32
  | _ => 0#32

def fn {F : FTy → Type} [FloatOps F] (main_arg0 : FVec F S4x4096x2048 .f32) (main_arg1 : IVec S4 32) : IVec S4 1 :=
  let main_c : IVec S4 32 := fun i => lit0 (S4.rowMajor i)
  let main_v0 : IVec S4 1 := cmpi .eq main_arg1 main_c
  main_v0
-- ==== Pre_pi_is_1230_Kernel.lean ====
abbrev S1x4096x2048 : Shape := ⟨3, ![1, 4096, 2048]⟩
abbrev S4 : Shape := ⟨1, ![4]⟩

class Facts : Prop where

variable [Facts]

noncomputable abbrev lit0 : Fin 4 → BitVec 32 := fun
  | 0 => 1#32 | 1 => 2#32 | 2 => 3#32 | 3 => 0#32
  | _ => 0#32

def fn {F : FTy → Type} [FloatOps F] (main_arg0 : FVec F S1x4096x2048 .f32) (main_arg1 : IVec S4 32) : IVec S4 1 :=
  let main_c : IVec S4 32 := fun i => lit0 (S4.rowMajor i)
  let main_v0 : IVec S4 1 := cmpi .eq main_arg1 main_c
  main_v0
-- ==== Pre_pi_is_1230_ReferenceIdeal.lean ====
abbrev S4x4096x2048 : Shape := ⟨3, ![4, 4096, 2048]⟩
abbrev S4 : Shape := ⟨1, ![4]⟩

class Facts : Prop where

variable [Facts]

noncomputable abbrev lit0 : Fin 4 → BitVec 32 := fun
  | 0 => 1#32 | 1 => 2#32 | 2 => 3#32 | 3 => 0#32
  | _ => 0#32

def fn {F : FTy → Type} [FloatOps F] (main_arg0 : FVec F S4x4096x2048 .f32) (main_arg1 : IVec S4 32) : IVec S4 1 :=
  let main_c : IVec S4 32 := fun i => lit0 (S4.rowMajor i)
  let main_v0 : IVec S4 1 := cmpi .eq main_arg1 main_c
  main_v0
-- ==== Pre_pi_is_1302_Kernel.lean ====
abbrev S1x4096x2048 : Shape := ⟨3, ![1, 4096, 2048]⟩
abbrev S4 : Shape := ⟨1, ![4]⟩

class Facts : Prop where

variable [Facts]

noncomputable abbrev lit0 : Fin 4 → BitVec 32 := fun
  | 0 => 1#32 | 1 => 3#32 | 2 => 0#32 | 3 => 2#32
  | _ => 0#32

def fn {F : FTy → Type} [FloatOps F] (main_arg0 : FVec F S1x4096x2048 .f32) (main_arg1 : IVec S4 32) : IVec S4 1 :=
  let main_c : IVec S4 32 := fun i => lit0 (S4.rowMajor i)
  let main_v0 : IVec S4 1 := cmpi .eq main_arg1 main_c
  main_v0
-- ==== Pre_pi_is_1302_ReferenceIdeal.lean ====
abbrev S4x4096x2048 : Shape := ⟨3, ![4, 4096, 2048]⟩
abbrev S4 : Shape := ⟨1, ![4]⟩

class Facts : Prop where

variable [Facts]

noncomputable abbrev lit0 : Fin 4 → BitVec 32 := fun
  | 0 => 1#32 | 1 => 3#32 | 2 => 0#32 | 3 => 2#32
  | _ => 0#32

def fn {F : FTy → Type} [FloatOps F] (main_arg0 : FVec F S4x4096x2048 .f32) (main_arg1 : IVec S4 32) : IVec S4 1 :=
  let main_c : IVec S4 32 := fun i => lit0 (S4.rowMajor i)
  let main_v0 : IVec S4 1 := cmpi .eq main_arg1 main_c
  main_v0
-- ==== Pre_pi_is_1320_Kernel.lean ====
abbrev S1x4096x2048 : Shape := ⟨3, ![1, 4096, 2048]⟩
abbrev S4 : Shape := ⟨1, ![4]⟩

class Facts : Prop where

variable [Facts]

noncomputable abbrev lit0 : Fin 4 → BitVec 32 := fun
  | 0 => 1#32 | 1 => 3#32 | 2 => 2#32 | 3 => 0#32
  | _ => 0#32

def fn {F : FTy → Type} [FloatOps F] (main_arg0 : FVec F S1x4096x2048 .f32) (main_arg1 : IVec S4 32) : IVec S4 1 :=
  let main_c : IVec S4 32 := fun i => lit0 (S4.rowMajor i)
  let main_v0 : IVec S4 1 := cmpi .eq main_arg1 main_c
  main_v0
-- ==== Pre_pi_is_1320_ReferenceIdeal.lean ====
abbrev S4x4096x2048 : Shape := ⟨3, ![4, 4096, 2048]⟩
abbrev S4 : Shape := ⟨1, ![4]⟩

class Facts : Prop where

variable [Facts]

noncomputable abbrev lit0 : Fin 4 → BitVec 32 := fun
  | 0 => 1#32 | 1 => 3#32 | 2 => 2#32 | 3 => 0#32
  | _ => 0#32

def fn {F : FTy → Type} [FloatOps F] (main_arg0 : FVec F S4x4096x2048 .f32) (main_arg1 : IVec S4 32) : IVec S4 1 :=
  let main_c : IVec S4 32 := fun i => lit0 (S4.rowMajor i)
  let main_v0 : IVec S4 1 := cmpi .eq main_arg1 main_c
  main_v0
-- ==== Pre_pi_is_2013_Kernel.lean ====
abbrev S1x4096x2048 : Shape := ⟨3, ![1, 4096, 2048]⟩
abbrev S4 : Shape := ⟨1, ![4]⟩

class Facts : Prop where

variable [Facts]

noncomputable abbrev lit0 : Fin 4 → BitVec 32 := fun
  | 0 => 2#32 | 1 => 0#32 | 2 => 1#32 | 3 => 3#32
  | _ => 0#32

def fn {F : FTy → Type} [FloatOps F] (main_arg0 : FVec F S1x4096x2048 .f32) (main_arg1 : IVec S4 32) : IVec S4 1 :=
  let main_c : IVec S4 32 := fun i => lit0 (S4.rowMajor i)
  let main_v0 : IVec S4 1 := cmpi .eq main_arg1 main_c
  main_v0
-- ==== Pre_pi_is_2013_ReferenceIdeal.lean ====
abbrev S4x4096x2048 : Shape := ⟨3, ![4, 4096, 2048]⟩
abbrev S4 : Shape := ⟨1, ![4]⟩

class Facts : Prop where

variable [Facts]

noncomputable abbrev lit0 : Fin 4 → BitVec 32 := fun
  | 0 => 2#32 | 1 => 0#32 | 2 => 1#32 | 3 => 3#32
  | _ => 0#32

def fn {F : FTy → Type} [FloatOps F] (main_arg0 : FVec F S4x4096x2048 .f32) (main_arg1 : IVec S4 32) : IVec S4 1 :=
  let main_c : IVec S4 32 := fun i => lit0 (S4.rowMajor i)
  let main_v0 : IVec S4 1 := cmpi .eq main_arg1 main_c
  main_v0
-- ==== Pre_pi_is_2031_Kernel.lean ====
abbrev S1x4096x2048 : Shape := ⟨3, ![1, 4096, 2048]⟩
abbrev S4 : Shape := ⟨1, ![4]⟩

class Facts : Prop where

variable [Facts]

noncomputable abbrev lit0 : Fin 4 → BitVec 32 := fun
  | 0 => 2#32 | 1 => 0#32 | 2 => 3#32 | 3 => 1#32
  | _ => 0#32

def fn {F : FTy → Type} [FloatOps F] (main_arg0 : FVec F S1x4096x2048 .f32) (main_arg1 : IVec S4 32) : IVec S4 1 :=
  let main_c : IVec S4 32 := fun i => lit0 (S4.rowMajor i)
  let main_v0 : IVec S4 1 := cmpi .eq main_arg1 main_c
  main_v0
-- ==== Pre_pi_is_2031_ReferenceIdeal.lean ====
abbrev S4x4096x2048 : Shape := ⟨3, ![4, 4096, 2048]⟩
abbrev S4 : Shape := ⟨1, ![4]⟩

class Facts : Prop where

variable [Facts]

noncomputable abbrev lit0 : Fin 4 → BitVec 32 := fun
  | 0 => 2#32 | 1 => 0#32 | 2 => 3#32 | 3 => 1#32
  | _ => 0#32

def fn {F : FTy → Type} [FloatOps F] (main_arg0 : FVec F S4x4096x2048 .f32) (main_arg1 : IVec S4 32) : IVec S4 1 :=
  let main_c : IVec S4 32 := fun i => lit0 (S4.rowMajor i)
  let main_v0 : IVec S4 1 := cmpi .eq main_arg1 main_c
  main_v0
-- ==== Pre_pi_is_2103_Kernel.lean ====
abbrev S1x4096x2048 : Shape := ⟨3, ![1, 4096, 2048]⟩
abbrev S4 : Shape := ⟨1, ![4]⟩

class Facts : Prop where

variable [Facts]

noncomputable abbrev lit0 : Fin 4 → BitVec 32 := fun
  | 0 => 2#32 | 1 => 1#32 | 2 => 0#32 | 3 => 3#32
  | _ => 0#32

def fn {F : FTy → Type} [FloatOps F] (main_arg0 : FVec F S1x4096x2048 .f32) (main_arg1 : IVec S4 32) : IVec S4 1 :=
  let main_c : IVec S4 32 := fun i => lit0 (S4.rowMajor i)
  let main_v0 : IVec S4 1 := cmpi .eq main_arg1 main_c
  main_v0
-- ==== Pre_pi_is_2103_ReferenceIdeal.lean ====
abbrev S4x4096x2048 : Shape := ⟨3, ![4, 4096, 2048]⟩
abbrev S4 : Shape := ⟨1, ![4]⟩

class Facts : Prop where

variable [Facts]

noncomputable abbrev lit0 : Fin 4 → BitVec 32 := fun
  | 0 => 2#32 | 1 => 1#32 | 2 => 0#32 | 3 => 3#32
  | _ => 0#32

def fn {F : FTy → Type} [FloatOps F] (main_arg0 : FVec F S4x4096x2048 .f32) (main_arg1 : IVec S4 32) : IVec S4 1 :=
  let main_c : IVec S4 32 := fun i => lit0 (S4.rowMajor i)
  let main_v0 : IVec S4 1 := cmpi .eq main_arg1 main_c
  main_v0
-- ==== Pre_pi_is_2130_Kernel.lean ====
abbrev S1x4096x2048 : Shape := ⟨3, ![1, 4096, 2048]⟩
abbrev S4 : Shape := ⟨1, ![4]⟩

class Facts : Prop where

variable [Facts]

noncomputable abbrev lit0 : Fin 4 → BitVec 32 := fun
  | 0 => 2#32 | 1 => 1#32 | 2 => 3#32 | 3 => 0#32
  | _ => 0#32

def fn {F : FTy → Type} [FloatOps F] (main_arg0 : FVec F S1x4096x2048 .f32) (main_arg1 : IVec S4 32) : IVec S4 1 :=
  let main_c : IVec S4 32 := fun i => lit0 (S4.rowMajor i)
  let main_v0 : IVec S4 1 := cmpi .eq main_arg1 main_c
  main_v0
-- ==== Pre_pi_is_2130_ReferenceIdeal.lean ====
abbrev S4x4096x2048 : Shape := ⟨3, ![4, 4096, 2048]⟩
abbrev S4 : Shape := ⟨1, ![4]⟩

class Facts : Prop where

variable [Facts]

noncomputable abbrev lit0 : Fin 4 → BitVec 32 := fun
  | 0 => 2#32 | 1 => 1#32 | 2 => 3#32 | 3 => 0#32
  | _ => 0#32

def fn {F : FTy → Type} [FloatOps F] (main_arg0 : FVec F S4x4096x2048 .f32) (main_arg1 : IVec S4 32) : IVec S4 1 :=
  let main_c : IVec S4 32 := fun i => lit0 (S4.rowMajor i)
  let main_v0 : IVec S4 1 := cmpi .eq main_arg1 main_c
  main_v0
-- ==== Pre_pi_is_2301_Kernel.lean ====
abbrev S1x4096x2048 : Shape := ⟨3, ![1, 4096, 2048]⟩
abbrev S4 : Shape := ⟨1, ![4]⟩

class Facts : Prop where

variable [Facts]

noncomputable abbrev lit0 : Fin 4 → BitVec 32 := fun
  | 0 => 2#32 | 1 => 3#32 | 2 => 0#32 | 3 => 1#32
  | _ => 0#32

def fn {F : FTy → Type} [FloatOps F] (main_arg0 : FVec F S1x4096x2048 .f32) (main_arg1 : IVec S4 32) : IVec S4 1 :=
  let main_c : IVec S4 32 := fun i => lit0 (S4.rowMajor i)
  let main_v0 : IVec S4 1 := cmpi .eq main_arg1 main_c
  main_v0
-- ==== Pre_pi_is_2301_ReferenceIdeal.lean ====
abbrev S4x4096x2048 : Shape := ⟨3, ![4, 4096, 2048]⟩
abbrev S4 : Shape := ⟨1, ![4]⟩

class Facts : Prop where

variable [Facts]

noncomputable abbrev lit0 : Fin 4 → BitVec 32 := fun
  | 0 => 2#32 | 1 => 3#32 | 2 => 0#32 | 3 => 1#32
  | _ => 0#32

def fn {F : FTy → Type} [FloatOps F] (main_arg0 : FVec F S4x4096x2048 .f32) (main_arg1 : IVec S4 32) : IVec S4 1 :=
  let main_c : IVec S4 32 := fun i => lit0 (S4.rowMajor i)
  let main_v0 : IVec S4 1 := cmpi .eq main_arg1 main_c
  main_v0
-- ==== Pre_pi_is_2310_Kernel.lean ====
abbrev S1x4096x2048 : Shape := ⟨3, ![1, 4096, 2048]⟩
abbrev S4 : Shape := ⟨1, ![4]⟩

class Facts : Prop where

variable [Facts]

noncomputable abbrev lit0 : Fin 4 → BitVec 32 := fun
  | 0 => 2#32 | 1 => 3#32 | 2 => 1#32 | 3 => 0#32
  | _ => 0#32

def fn {F : FTy → Type} [FloatOps F] (main_arg0 : FVec F S1x4096x2048 .f32) (main_arg1 : IVec S4 32) : IVec S4 1 :=
  let main_c : IVec S4 32 := fun i => lit0 (S4.rowMajor i)
  let main_v0 : IVec S4 1 := cmpi .eq main_arg1 main_c
  main_v0
-- ==== Pre_pi_is_2310_ReferenceIdeal.lean ====
abbrev S4x4096x2048 : Shape := ⟨3, ![4, 4096, 2048]⟩
abbrev S4 : Shape := ⟨1, ![4]⟩

class Facts : Prop where

variable [Facts]

noncomputable abbrev lit0 : Fin 4 → BitVec 32 := fun
  | 0 => 2#32 | 1 => 3#32 | 2 => 1#32 | 3 => 0#32
  | _ => 0#32

def fn {F : FTy → Type} [FloatOps F] (main_arg0 : FVec F S4x4096x2048 .f32) (main_arg1 : IVec S4 32) : IVec S4 1 :=
  let main_c : IVec S4 32 := fun i => lit0 (S4.rowMajor i)
  let main_v0 : IVec S4 1 := cmpi .eq main_arg1 main_c
  main_v0
-- ==== Pre_pi_is_3012_Kernel.lean ====
abbrev S1x4096x2048 : Shape := ⟨3, ![1, 4096, 2048]⟩
abbrev S4 : Shape := ⟨1, ![4]⟩

class Facts : Prop where

variable [Facts]

noncomputable abbrev lit0 : Fin 4 → BitVec 32 := fun
  | 0 => 3#32 | 1 => 0#32 | 2 => 1#32 | 3 => 2#32
  | _ => 0#32

def fn {F : FTy → Type} [FloatOps F] (main_arg0 : FVec F S1x4096x2048 .f32) (main_arg1 : IVec S4 32) : IVec S4 1 :=
  let main_c : IVec S4 32 := fun i => lit0 (S4.rowMajor i)
  let main_v0 : IVec S4 1 := cmpi .eq main_arg1 main_c
  main_v0
-- ==== Pre_pi_is_3012_ReferenceIdeal.lean ====
abbrev S4x4096x2048 : Shape := ⟨3, ![4, 4096, 2048]⟩
abbrev S4 : Shape := ⟨1, ![4]⟩

class Facts : Prop where

variable [Facts]

noncomputable abbrev lit0 : Fin 4 → BitVec 32 := fun
  | 0 => 3#32 | 1 => 0#32 | 2 => 1#32 | 3 => 2#32
  | _ => 0#32

def fn {F : FTy → Type} [FloatOps F] (main_arg0 : FVec F S4x4096x2048 .f32) (main_arg1 : IVec S4 32) : IVec S4 1 :=
  let main_c : IVec S4 32 := fun i => lit0 (S4.rowMajor i)
  let main_v0 : IVec S4 1 := cmpi .eq main_arg1 main_c
  main_v0
-- ==== Pre_pi_is_3021_Kernel.lean ====
abbrev S1x4096x2048 : Shape := ⟨3, ![1, 4096, 2048]⟩
abbrev S4 : Shape := ⟨1, ![4]⟩

class Facts : Prop where

variable [Facts]

noncomputable abbrev lit0 : Fin 4 → BitVec 32 := fun
  | 0 => 3#32 | 1 => 0#32 | 2 => 2#32 | 3 => 1#32
  | _ => 0#32

def fn {F : FTy → Type} [FloatOps F] (main_arg0 : FVec F S1x4096x2048 .f32) (main_arg1 : IVec S4 32) : IVec S4 1 :=
  let main_c : IVec S4 32 := fun i => lit0 (S4.rowMajor i)
  let main_v0 : IVec S4 1 := cmpi .eq main_arg1 main_c
  main_v0
-- ==== Pre_pi_is_3021_ReferenceIdeal.lean ====
abbrev S4x4096x2048 : Shape := ⟨3, ![4, 4096, 2048]⟩
abbrev S4 : Shape := ⟨1, ![4]⟩

class Facts : Prop where

variable [Facts]

noncomputable abbrev lit0 : Fin 4 → BitVec 32 := fun
  | 0 => 3#32 | 1 => 0#32 | 2 => 2#32 | 3 => 1#32
  | _ => 0#32

def fn {F : FTy → Type} [FloatOps F] (main_arg0 : FVec F S4x4096x2048 .f32) (main_arg1 : IVec S4 32) : IVec S4 1 :=
  let main_c : IVec S4 32 := fun i => lit0 (S4.rowMajor i)
  let main_v0 : IVec S4 1 := cmpi .eq main_arg1 main_c
  main_v0
-- ==== Pre_pi_is_3102_Kernel.lean ====
abbrev S1x4096x2048 : Shape := ⟨3, ![1, 4096, 2048]⟩
abbrev S4 : Shape := ⟨1, ![4]⟩

class Facts : Prop where

variable [Facts]

noncomputable abbrev lit0 : Fin 4 → BitVec 32 := fun
  | 0 => 3#32 | 1 => 1#32 | 2 => 0#32 | 3 => 2#32
  | _ => 0#32

def fn {F : FTy → Type} [FloatOps F] (main_arg0 : FVec F S1x4096x2048 .f32) (main_arg1 : IVec S4 32) : IVec S4 1 :=
  let main_c : IVec S4 32 := fun i => lit0 (S4.rowMajor i)
  let main_v0 : IVec S4 1 := cmpi .eq main_arg1 main_c
  main_v0
-- ==== Pre_pi_is_3102_ReferenceIdeal.lean ====
abbrev S4x4096x2048 : Shape := ⟨3, ![4, 4096, 2048]⟩
abbrev S4 : Shape := ⟨1, ![4]⟩

class Facts : Prop where

variable [Facts]

noncomputable abbrev lit0 : Fin 4 → BitVec 32 := fun
  | 0 => 3#32 | 1 => 1#32 | 2 => 0#32 | 3 => 2#32
  | _ => 0#32

def fn {F : FTy → Type} [FloatOps F] (main_arg0 : FVec F S4x4096x2048 .f32) (main_arg1 : IVec S4 32) : IVec S4 1 :=
  let main_c : IVec S4 32 := fun i => lit0 (S4.rowMajor i)
  let main_v0 : IVec S4 1 := cmpi .eq main_arg1 main_c
  main_v0
-- ==== Pre_pi_is_3120_Kernel.lean ====
abbrev S1x4096x2048 : Shape := ⟨3, ![1, 4096, 2048]⟩
abbrev S4 : Shape := ⟨1, ![4]⟩

class Facts : Prop where

variable [Facts]

noncomputable abbrev lit0 : Fin 4 → BitVec 32 := fun
  | 0 => 3#32 | 1 => 1#32 | 2 => 2#32 | 3 => 0#32
  | _ => 0#32

def fn {F : FTy → Type} [FloatOps F] (main_arg0 : FVec F S1x4096x2048 .f32) (main_arg1 : IVec S4 32) : IVec S4 1 :=
  let main_c : IVec S4 32 := fun i => lit0 (S4.rowMajor i)
  let main_v0 : IVec S4 1 := cmpi .eq main_arg1 main_c
  main_v0
-- ==== Pre_pi_is_3120_ReferenceIdeal.lean ====
abbrev S4x4096x2048 : Shape := ⟨3, ![4, 4096, 2048]⟩
abbrev S4 : Shape := ⟨1, ![4]⟩

class Facts : Prop where

variable [Facts]

noncomputable abbrev lit0 : Fin 4 → BitVec 32 := fun
  | 0 => 3#32 | 1 => 1#32 | 2 => 2#32 | 3 => 0#32
  | _ => 0#32

def fn {F : FTy → Type} [FloatOps F] (main_arg0 : FVec F S4x4096x2048 .f32) (main_arg1 : IVec S4 32) : IVec S4 1 :=
  let main_c : IVec S4 32 := fun i => lit0 (S4.rowMajor i)
  let main_v0 : IVec S4 1 := cmpi .eq main_arg1 main_c
  main_v0
-- ==== Pre_pi_is_3201_Kernel.lean ====
abbrev S1x4096x2048 : Shape := ⟨3, ![1, 4096, 2048]⟩
abbrev S4 : Shape := ⟨1, ![4]⟩

class Facts : Prop where

variable [Facts]

noncomputable abbrev lit0 : Fin 4 → BitVec 32 := fun
  | 0 => 3#32 | 1 => 2#32 | 2 => 0#32 | 3 => 1#32
  | _ => 0#32

def fn {F : FTy → Type} [FloatOps F] (main_arg0 : FVec F S1x4096x2048 .f32) (main_arg1 : IVec S4 32) : IVec S4 1 :=
  let main_c : IVec S4 32 := fun i => lit0 (S4.rowMajor i)
  let main_v0 : IVec S4 1 := cmpi .eq main_arg1 main_c
  main_v0
-- ==== Pre_pi_is_3201_ReferenceIdeal.lean ====
abbrev S4x4096x2048 : Shape := ⟨3, ![4, 4096, 2048]⟩
abbrev S4 : Shape := ⟨1, ![4]⟩

class Facts : Prop where

variable [Facts]

noncomputable abbrev lit0 : Fin 4 → BitVec 32 := fun
  | 0 => 3#32 | 1 => 2#32 | 2 => 0#32 | 3 => 1#32
  | _ => 0#32

def fn {F : FTy → Type} [FloatOps F] (main_arg0 : FVec F S4x4096x2048 .f32) (main_arg1 : IVec S4 32) : IVec S4 1 :=
  let main_c : IVec S4 32 := fun i => lit0 (S4.rowMajor i)
  let main_v0 : IVec S4 1 := cmpi .eq main_arg1 main_c
  main_v0
-- ==== Pre_pi_is_3210_Kernel.lean ====
abbrev S1x4096x2048 : Shape := ⟨3, ![1, 4096, 2048]⟩
abbrev S4 : Shape := ⟨1, ![4]⟩

class Facts : Prop where

variable [Facts]

noncomputable abbrev lit0 : Fin 4 → BitVec 32 := fun
  | 0 => 3#32 | 1 => 2#32 | 2 => 1#32 | 3 => 0#32
  | _ => 0#32

def fn {F : FTy → Type} [FloatOps F] (main_arg0 : FVec F S1x4096x2048 .f32) (main_arg1 : IVec S4 32) : IVec S4 1 :=
  let main_c : IVec S4 32 := fun i => lit0 (S4.rowMajor i)
  let main_v0 : IVec S4 1 := cmpi .eq main_arg1 main_c
  main_v0
-- ==== Pre_pi_is_3210_ReferenceIdeal.lean ====
abbrev S4x4096x2048 : Shape := ⟨3, ![4, 4096, 2048]⟩
abbrev S4 : Shape := ⟨1, ![4]⟩

class Facts : Prop where

variable [Facts]

noncomputable abbrev lit0 : Fin 4 → BitVec 32 := fun
  | 0 => 3#32 | 1 => 2#32 | 2 => 1#32 | 3 => 0#32
  | _ => 0#32

def fn {F : FTy → Type} [FloatOps F] (main_arg0 : FVec F S4x4096x2048 .f32) (main_arg1 : IVec S4 32) : IVec S4 1 :=
  let main_c : IVec S4 32 := fun i => lit0 (S4.rowMajor i)
  let main_v0 : IVec S4 1 := cmpi .eq main_arg1 main_c
  main_v0
-- ==== Kernel.lean ====
abbrev S1x4096x2048 : Shape := ⟨3, ![1, 4096, 2048]⟩
abbrev S4 : Shape := ⟨1, ![4]⟩
abbrev S2x512x2048 : Shape := ⟨3, ![2, 512, 2048]⟩
abbrev S4x512x2048 : Shape := ⟨3, ![4, 512, 2048]⟩
abbrev S2 : Shape := ⟨1, ![2]⟩
abbrev S_ : Shape := ⟨0, ![]⟩
abbrev S1 : Shape := ⟨1, ![1]⟩
abbrev S1x512x2048 : Shape := ⟨3, ![1, 512, 2048]⟩
abbrev S512x2048 : Shape := ⟨2, ![512, 2048]⟩

abbrev nBuf : Space → Nat
  | .hbm => 3
  | .vmem => 4
  | .smem => 1
  | _ => 0

abbrev bufTy : (tb : Table) → Fin (tcTables nBuf tb) → BufTy
  | .hbm, ⟨0, _⟩ => ⟨S1x4096x2048, .f32⟩
  | .hbm, ⟨1, _⟩ => ⟨S4, .i32⟩
  | .hbm, ⟨2, _⟩ => ⟨S1x4096x2048, .f32⟩
  | .local _ .vmem, ⟨0, _⟩ => ⟨S2x512x2048, .f32⟩
  | .local _ .vmem, ⟨1, _⟩ => ⟨S2x512x2048, .bf16⟩
  | .local _ .vmem, ⟨2, _⟩ => ⟨S4x512x2048, .bf16⟩
  | .local _ .vmem, ⟨3, _⟩ => ⟨S2x512x2048, .f32⟩
  | .local _ .smem, ⟨0, _⟩ => ⟨S4, .i32⟩
  | _, _ => ⟨S1x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 2 → Bool
  | ⟨0, _⟩ => true
  | ⟨1, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 2 11 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_stg0_0 : Ref sig .tc := ⟨.smem, 0, rfl⟩
abbrev cc0_sem0_0 : DmaSem sig := 0
abbrev barrier0 : Sem sig := 1

abbrev nD : Nat := 32
abbrev τ : Topo := Topo.v7x

variable {F : FTy → Type} [FloatOps F]

abbrev grid0 : Pipeline.Grid := .none

def k0_off1 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : Index := Scalar.indexCast v5
  ![v9.toNat]
def k0_dev1 (d0 : Dev nD) (v10 : BitVec 32) : Nat :=
  let c0_i32_14 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_13 : BitVec 32 := 16#32
  let v30 : BitVec 32 := Scalar.muli v2 c16_i32_13
  let v31 : BitVec 32 := Scalar.addi c0_i32_14 v30
  let c4_i32_15 : BitVec 32 := 4#32
  let v32 : BitVec 32 := Scalar.muli v10 c4_i32_15
  let v33 : BitVec 32 := Scalar.addi v31 v32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_16 : BitVec 32 := 1#32
  let v34 : BitVec 32 := Scalar.muli v8 c1_i32_16
  let v35 : BitVec 32 := Scalar.addi v33 v34
  v35.toNat

def k0_dev2 (d0 : Dev nD) (v11 : BitVec 32) (v14 : BitVec 32) (v17 : BitVec 32) (v20 : BitVec 32) : Nat :=
  let c0_i32_19 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_18 : BitVec 32 := 16#32
  let v36 : BitVec 32 := Scalar.muli v2 c16_i32_18
  let v37 : BitVec 32 := Scalar.addi c0_i32_19 v36
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v21 : BitVec 1 := Scalar.cmpi .eq v20 v5
  let c3_i32 : BitVec 32 := 3#32
  let v18 : BitVec 1 := Scalar.cmpi .eq v17 v5
  let c2_i32_4 : BitVec 32 := 2#32
  let v15 : BitVec 1 := Scalar.cmpi .eq v14 v5
  let c1_i32_3 : BitVec 32 := 1#32
  let v12 : BitVec 1 := Scalar.cmpi .eq v11 v5
  let c0_i32 : BitVec 32 := 0#32
  let c0_i32_2 : BitVec 32 := 0#32
  let v13 : BitVec 32 := Scalar.select v12 c0_i32 c0_i32_2
  let v16 : BitVec 32 := Scalar.select v15 c1_i32_3 v13
  let v19 : BitVec 32 := Scalar.select v18 c2_i32_4 v16
  let v22 : BitVec 32 := Scalar.select v21 c3_i32 v19
  let c4_i32_20 : BitVec 32 := 4#32
  let v38 : BitVec 32 := Scalar.muli v22 c4_i32_20
  let v39 : BitVec 32 := Scalar.addi v37 v38
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_21 : BitVec 32 := 1#32
  let v40 : BitVec 32 := Scalar.muli v8 c1_i32_21
  let v41 : BitVec 32 := Scalar.addi v39 v40
  v41.toNat

def k0_dev3 (d0 : Dev nD) (v10 : BitVec 32) : Nat :=
  let c0_i32_47 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_46 : BitVec 32 := 16#32
  let v60 : BitVec 32 := Scalar.muli v2 c16_i32_46
  let v61 : BitVec 32 := Scalar.addi c0_i32_47 v60
  let c4_i32_48 : BitVec 32 := 4#32
  let v62 : BitVec 32 := Scalar.muli v10 c4_i32_48
  let v63 : BitVec 32 := Scalar.addi v61 v62
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_49 : BitVec 32 := 1#32
  let v64 : BitVec 32 := Scalar.muli v8 c1_i32_49
  let v65 : BitVec 32 := Scalar.addi v63 v64
  v65.toNat
def k0_dev4 (d0 : Dev nD) (v10 : BitVec 32) : Nat :=
  let c0_i32_78 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_77 : BitVec 32 := 16#32
  let v92 : BitVec 32 := Scalar.muli v2 c16_i32_77
  let v93 : BitVec 32 := Scalar.addi c0_i32_78 v92
  let c4_i32_79 : BitVec 32 := 4#32
  let v94 : BitVec 32 := Scalar.muli v10 c4_i32_79
  let v95 : BitVec 32 := Scalar.addi v93 v94
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_80 : BitVec 32 := 1#32
  let v96 : BitVec 32 := Scalar.muli v8 c1_i32_80
  let v97 : BitVec 32 := Scalar.addi v95 v96
  v97.toNat
def k0_dev5 (d0 : Dev nD) (v10 : BitVec 32) : Nat :=
  let c0_i32_118 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_117 : BitVec 32 := 16#32
  let v130 : BitVec 32 := Scalar.muli v2 c16_i32_117
  let v131 : BitVec 32 := Scalar.addi c0_i32_118 v130
  let c4_i32_119 : BitVec 32 := 4#32
  let v132 : BitVec 32 := Scalar.muli v10 c4_i32_119
  let v133 : BitVec 32 := Scalar.addi v131 v132
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_120 : BitVec 32 := 1#32
  let v134 : BitVec 32 := Scalar.muli v8 c1_i32_120
  let v135 : BitVec 32 := Scalar.addi v133 v134
  v135.toNat
def k0_dev6 (d0 : Dev nD) (v11 : BitVec 32) (v14 : BitVec 32) (v17 : BitVec 32) (v20 : BitVec 32) : Nat :=
  let c0_i32_152 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_151 : BitVec 32 := 16#32
  let v168 : BitVec 32 := Scalar.muli v2 c16_i32_151
  let v169 : BitVec 32 := Scalar.addi c0_i32_152 v168
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v21 : BitVec 1 := Scalar.cmpi .eq v20 v5
  let c3_i32 : BitVec 32 := 3#32
  let v18 : BitVec 1 := Scalar.cmpi .eq v17 v5
  let c2_i32_4 : BitVec 32 := 2#32
  let v15 : BitVec 1 := Scalar.cmpi .eq v14 v5
  let c1_i32_3 : BitVec 32 := 1#32
  let v12 : BitVec 1 := Scalar.cmpi .eq v11 v5
  let c0_i32 : BitVec 32 := 0#32
  let c0_i32_2 : BitVec 32 := 0#32
  let v13 : BitVec 32 := Scalar.select v12 c0_i32 c0_i32_2
  let v16 : BitVec 32 := Scalar.select v15 c1_i32_3 v13
  let v19 : BitVec 32 := Scalar.select v18 c2_i32_4 v16
  let v22 : BitVec 32 := Scalar.select v21 c3_i32 v19
  let c4_i32_153 : BitVec 32 := 4#32
  let v170 : BitVec 32 := Scalar.muli v22 c4_i32_153
  let v171 : BitVec 32 := Scalar.addi v169 v170
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_154 : BitVec 32 := 1#32
  let v172 : BitVec 32 := Scalar.muli v8 c1_i32_154
  let v173 : BitVec 32 := Scalar.addi v171 v172
  v173.toNat
def k0_dev7 (d0 : Dev nD) (v10 : BitVec 32) : Nat :=
  let c0_i32_188 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_187 : BitVec 32 := 16#32
  let v198 : BitVec 32 := Scalar.muli v2 c16_i32_187
  let v199 : BitVec 32 := Scalar.addi c0_i32_188 v198
  let c4_i32_189 : BitVec 32 := 4#32
  let v200 : BitVec 32 := Scalar.muli v10 c4_i32_189
  let v201 : BitVec 32 := Scalar.addi v199 v200
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_190 : BitVec 32 := 1#32
  let v202 : BitVec 32 := Scalar.muli v8 c1_i32_190
  let v203 : BitVec 32 := Scalar.addi v201 v202
  v203.toNat
def k0_dev8 (d0 : Dev nD) (v11 : BitVec 32) (v14 : BitVec 32) (v17 : BitVec 32) (v20 : BitVec 32) : Nat :=
  let c0_i32_222 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_221 : BitVec 32 := 16#32
  let v236 : BitVec 32 := Scalar.muli v2 c16_i32_221
  let v237 : BitVec 32 := Scalar.addi c0_i32_222 v236
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v21 : BitVec 1 := Scalar.cmpi .eq v20 v5
  let c3_i32 : BitVec 32 := 3#32
  let v18 : BitVec 1 := Scalar.cmpi .eq v17 v5
  let c2_i32_4 : BitVec 32 := 2#32
  let v15 : BitVec 1 := Scalar.cmpi .eq v14 v5
  let c1_i32_3 : BitVec 32 := 1#32
  let v12 : BitVec 1 := Scalar.cmpi .eq v11 v5
  let c0_i32 : BitVec 32 := 0#32
  let c0_i32_2 : BitVec 32 := 0#32
  let v13 : BitVec 32 := Scalar.select v12 c0_i32 c0_i32_2
  let v16 : BitVec 32 := Scalar.select v15 c1_i32_3 v13
  let v19 : BitVec 32 := Scalar.select v18 c2_i32_4 v16
  let v22 : BitVec 32 := Scalar.select v21 c3_i32 v19
  let c4_i32_223 : BitVec 32 := 4#32
  let v238 : BitVec 32 := Scalar.muli v22 c4_i32_223
  let v239 : BitVec 32 := Scalar.addi v237 v238
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_224 : BitVec 32 := 1#32
  let v240 : BitVec 32 := Scalar.muli v8 c1_i32_224
  let v241 : BitVec 32 := Scalar.addi v239 v240
  v241.toNat
def k0_dev9 (d0 : Dev nD) (v10 : BitVec 32) : Nat :=
  let c0_i32_260 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_259 : BitVec 32 := 16#32
  let v266 : BitVec 32 := Scalar.muli v2 c16_i32_259
  let v267 : BitVec 32 := Scalar.addi c0_i32_260 v266
  let c4_i32_261 : BitVec 32 := 4#32
  let v268 : BitVec 32 := Scalar.muli v10 c4_i32_261
  let v269 : BitVec 32 := Scalar.addi v267 v268
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_262 : BitVec 32 := 1#32
  let v270 : BitVec 32 := Scalar.muli v8 c1_i32_262
  let v271 : BitVec 32 := Scalar.addi v269 v270
  v271.toNat
def k0_dev10 (d0 : Dev nD) (v11 : BitVec 32) (v14 : BitVec 32) (v17 : BitVec 32) (v20 : BitVec 32) : Nat :=
  let c0_i32_301 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_300 : BitVec 32 := 16#32
  let v310 : BitVec 32 := Scalar.muli v2 c16_i32_300
  let v311 : BitVec 32 := Scalar.addi c0_i32_301 v310
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v21 : BitVec 1 := Scalar.cmpi .eq v20 v5
  let c3_i32 : BitVec 32 := 3#32
  let v18 : BitVec 1 := Scalar.cmpi .eq v17 v5
  let c2_i32_4 : BitVec 32 := 2#32
  let v15 : BitVec 1 := Scalar.cmpi .eq v14 v5
  let c1_i32_3 : BitVec 32 := 1#32
  let v12 : BitVec 1 := Scalar.cmpi .eq v11 v5
  let c0_i32 : BitVec 32 := 0#32
  let c0_i32_2 : BitVec 32 := 0#32
  let v13 : BitVec 32 := Scalar.select v12 c0_i32 c0_i32_2
  let v16 : BitVec 32 := Scalar.select v15 c1_i32_3 v13
  let v19 : BitVec 32 := Scalar.select v18 c2_i32_4 v16
  let v22 : BitVec 32 := Scalar.select v21 c3_i32 v19
  let c4_i32_302 : BitVec 32 := 4#32
  let v312 : BitVec 32 := Scalar.muli v22 c4_i32_302
  let v313 : BitVec 32 := Scalar.addi v311 v312
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_303 : BitVec 32 := 1#32
  let v314 : BitVec 32 := Scalar.muli v8 c1_i32_303
  let v315 : BitVec 32 := Scalar.addi v313 v314
  v315.toNat
def k0_dev11 (d0 : Dev nD) (v10 : BitVec 32) : Nat :=
  let c0_i32_339 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_338 : BitVec 32 := 16#32
  let v340 : BitVec 32 := Scalar.muli v2 c16_i32_338
  let v341 : BitVec 32 := Scalar.addi c0_i32_339 v340
  let c4_i32_340 : BitVec 32 := 4#32
  let v342 : BitVec 32 := Scalar.muli v10 c4_i32_340
  let v343 : BitVec 32 := Scalar.addi v341 v342
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_341 : BitVec 32 := 1#32
  let v344 : BitVec 32 := Scalar.muli v8 c1_i32_341
  let v345 : BitVec 32 := Scalar.addi v343 v344
  v345.toNat
def k0_dev12 (d0 : Dev nD) (v11 : BitVec 32) (v14 : BitVec 32) (v17 : BitVec 32) (v20 : BitVec 32) : Nat :=
  let c0_i32_380 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_379 : BitVec 32 := 16#32
  let v384 : BitVec 32 := Scalar.muli v2 c16_i32_379
  let v385 : BitVec 32 := Scalar.addi c0_i32_380 v384
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v21 : BitVec 1 := Scalar.cmpi .eq v20 v5
  let c3_i32 : BitVec 32 := 3#32
  let v18 : BitVec 1 := Scalar.cmpi .eq v17 v5
  let c2_i32_4 : BitVec 32 := 2#32
  let v15 : BitVec 1 := Scalar.cmpi .eq v14 v5
  let c1_i32_3 : BitVec 32 := 1#32
  let v12 : BitVec 1 := Scalar.cmpi .eq v11 v5
  let c0_i32 : BitVec 32 := 0#32
  let c0_i32_2 : BitVec 32 := 0#32
  let v13 : BitVec 32 := Scalar.select v12 c0_i32 c0_i32_2
  let v16 : BitVec 32 := Scalar.select v15 c1_i32_3 v13
  let v19 : BitVec 32 := Scalar.select v18 c2_i32_4 v16
  let v22 : BitVec 32 := Scalar.select v21 c3_i32 v19
  let c4_i32_381 : BitVec 32 := 4#32
  let v386 : BitVec 32 := Scalar.muli v22 c4_i32_381
  let v387 : BitVec 32 := Scalar.addi v385 v386
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_382 : BitVec 32 := 1#32
  let v388 : BitVec 32 := Scalar.muli v8 c1_i32_382
  let v389 : BitVec 32 := Scalar.addi v387 v388
  v389.toNat

def k0_chk2 (d0 : Dev nD) (v11 : BitVec 32) (v14 : BitVec 32) (v17 : BitVec 32) (v20 : BitVec 32) : Prop :=
  ((k0_dev2 d0 v11 v14 v17 v20) < nD) ∧
  ((k0_dev6 d0 v11 v14 v17 v20) < nD) ∧
  ((k0_dev8 d0 v11 v14 v17 v20) < nD) ∧
  ((k0_dev10 d0 v11 v14 v17 v20) < nD) ∧
  ((k0_dev12 d0 v11 v14 v17 v20) < nD)
theorem k0_dev2_lt : ∀ (d0 : Dev nD) (v11 : BitVec 32) (v14 : BitVec 32) (v17 : BitVec 32) (v20 : BitVec 32) (k0_hw2 : k0_chk2 d0 v11 v14 v17 v20), (k0_dev2 d0 v11 v14 v17 v20) < nD := fun d0 v11 v14 v17 v20 k0_hw2 => k0_hw2.1
theorem k0_dev6_lt : ∀ (d0 : Dev nD) (v11 : BitVec 32) (v14 : BitVec 32) (v17 : BitVec 32) (v20 : BitVec 32) (k0_hw2 : k0_chk2 d0 v11 v14 v17 v20), (k0_dev6 d0 v11 v14 v17 v20) < nD := fun d0 v11 v14 v17 v20 k0_hw2 => k0_hw2.2.1
theorem k0_dev8_lt : ∀ (d0 : Dev nD) (v11 : BitVec 32) (v14 : BitVec 32) (v17 : BitVec 32) (v20 : BitVec 32) (k0_hw2 : k0_chk2 d0 v11 v14 v17 v20), (k0_dev8 d0 v11 v14 v17 v20) < nD := fun d0 v11 v14 v17 v20 k0_hw2 => k0_hw2.2.2.1
theorem k0_dev10_lt : ∀ (d0 : Dev nD) (v11 : BitVec 32) (v14 : BitVec 32) (v17 : BitVec 32) (v20 : BitVec 32) (k0_hw2 : k0_chk2 d0 v11 v14 v17 v20), (k0_dev10 d0 v11 v14 v17 v20) < nD := fun d0 v11 v14 v17 v20 k0_hw2 => k0_hw2.2.2.2.1
theorem k0_dev12_lt : ∀ (d0 : Dev nD) (v11 : BitVec 32) (v14 : BitVec 32) (v17 : BitVec 32) (v20 : BitVec 32) (k0_hw2 : k0_chk2 d0 v11 v14 v17 v20), (k0_dev12 d0 v11 v14 v17 v20) < nD := fun d0 v11 v14 v17 v20 k0_hw2 => k0_hw2.2.2.2.2

def k0_dev13 (d0 : Dev nD) (v10 : BitVec 32) : Nat :=
  let c0_i32_418 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_417 : BitVec 32 := 16#32
  let v414 : BitVec 32 := Scalar.muli v2 c16_i32_417
  let v415 : BitVec 32 := Scalar.addi c0_i32_418 v414
  let c4_i32_419 : BitVec 32 := 4#32
  let v416 : BitVec 32 := Scalar.muli v10 c4_i32_419
  let v417 : BitVec 32 := Scalar.addi v415 v416
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_420 : BitVec 32 := 1#32
  let v418 : BitVec 32 := Scalar.muli v8 c1_i32_420
  let v419 : BitVec 32 := Scalar.addi v417 v418
  v419.toNat
def k0_dev14 (d0 : Dev nD) (v10 : BitVec 32) : Nat :=
  let c0_i32_486 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_485 : BitVec 32 := 16#32
  let v476 : BitVec 32 := Scalar.muli v2 c16_i32_485
  let v477 : BitVec 32 := Scalar.addi c0_i32_486 v476
  let c4_i32_487 : BitVec 32 := 4#32
  let v478 : BitVec 32 := Scalar.muli v10 c4_i32_487
  let v479 : BitVec 32 := Scalar.addi v477 v478
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_488 : BitVec 32 := 1#32
  let v480 : BitVec 32 := Scalar.muli v8 c1_i32_488
  let v481 : BitVec 32 := Scalar.addi v479 v480
  v481.toNat

def k0_chk1 (d0 : Dev nD) (v10 : BitVec 32) : Prop :=
  ((k0_dev1 d0 v10) < nD) ∧
  ((k0_dev3 d0 v10) < nD) ∧
  ((k0_dev4 d0 v10) < nD) ∧
  ((k0_dev5 d0 v10) < nD) ∧
  ((k0_dev7 d0 v10) < nD) ∧
  ((k0_dev9 d0 v10) < nD) ∧
  ((k0_dev11 d0 v10) < nD) ∧
  ((k0_dev13 d0 v10) < nD) ∧
  ((k0_dev14 d0 v10) < nD)
theorem k0_dev1_lt : ∀ (d0 : Dev nD) (v10 : BitVec 32) (k0_hw1 : k0_chk1 d0 v10), (k0_dev1 d0 v10) < nD := fun d0 v10 k0_hw1 => k0_hw1.1
theorem k0_dev3_lt : ∀ (d0 : Dev nD) (v10 : BitVec 32) (k0_hw1 : k0_chk1 d0 v10), (k0_dev3 d0 v10) < nD := fun d0 v10 k0_hw1 => k0_hw1.2.1
theorem k0_dev4_lt : ∀ (d0 : Dev nD) (v10 : BitVec 32) (k0_hw1 : k0_chk1 d0 v10), (k0_dev4 d0 v10) < nD := fun d0 v10 k0_hw1 => k0_hw1.2.2.1
theorem k0_dev5_lt : ∀ (d0 : Dev nD) (v10 : BitVec 32) (k0_hw1 : k0_chk1 d0 v10), (k0_dev5 d0 v10) < nD := fun d0 v10 k0_hw1 => k0_hw1.2.2.2.1
theorem k0_dev7_lt : ∀ (d0 : Dev nD) (v10 : BitVec 32) (k0_hw1 : k0_chk1 d0 v10), (k0_dev7 d0 v10) < nD := fun d0 v10 k0_hw1 => k0_hw1.2.2.2.2.1
theorem k0_dev9_lt : ∀ (d0 : Dev nD) (v10 : BitVec 32) (k0_hw1 : k0_chk1 d0 v10), (k0_dev9 d0 v10) < nD := fun d0 v10 k0_hw1 => k0_hw1.2.2.2.2.2.1
theorem k0_dev11_lt : ∀ (d0 : Dev nD) (v10 : BitVec 32) (k0_hw1 : k0_chk1 d0 v10), (k0_dev11 d0 v10) < nD := fun d0 v10 k0_hw1 => k0_hw1.2.2.2.2.2.2.1
theorem k0_dev13_lt : ∀ (d0 : Dev nD) (v10 : BitVec 32) (k0_hw1 : k0_chk1 d0 v10), (k0_dev13 d0 v10) < nD := fun d0 v10 k0_hw1 => k0_hw1.2.2.2.2.2.2.2.1
theorem k0_dev14_lt : ∀ (d0 : Dev nD) (v10 : BitVec 32) (k0_hw1 : k0_chk1 d0 v10), (k0_dev14 d0 v10) < nD := fun d0 v10 k0_hw1 => k0_hw1.2.2.2.2.2.2.2.2

abbrev stage0_0 : Fin 1 → Memref sig .tc .smem S4 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4x4096x2048 : Shape := ⟨3, ![4, 4096, 2048]⟩
abbrev S4 : Shape := ⟨1, ![4]⟩
abbrev S_ : Shape := ⟨0, ![]⟩
abbrev S4x1 : Shape := ⟨2, ![4, 1]⟩

abbrev nBuf : Space → Nat
  | .hbm => 14
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4, .i32⟩
  | .hbm, ⟨2, _⟩ => ⟨S4, .i32⟩
  | .hbm, ⟨3, _⟩ => ⟨S4, .i32⟩
  | .hbm, ⟨4, _⟩ => ⟨S4, .i32⟩
  | .hbm, ⟨5, _⟩ => ⟨S_, .i32⟩
  | .hbm, ⟨6, _⟩ => ⟨S4, .i32⟩
  | .hbm, ⟨7, _⟩ => ⟨S4, .i1⟩
  | .hbm, ⟨8, _⟩ => ⟨S_, .i32⟩
  | .hbm, ⟨9, _⟩ => ⟨S4, .i32⟩
  | .hbm, ⟨10, _⟩ => ⟨S4, .i32⟩
  | .hbm, ⟨11, _⟩ => ⟨S4, .i32⟩
  | .hbm, ⟨12, _⟩ => ⟨S4x1, .i32⟩
  | .hbm, ⟨13, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Proof.KernelIdeal.Proto.lean ====
/-
# The protocol of the shard rotation

Every device sends its shard, in eight chunks, to the device `nxt` whose place in the mesh's axis `y` the permutation
names, and receives the shard of `prv`, the device that names it. All semaphores and who moves them:

* barrier cell of `d` (round 0, two units): `prv d` pays one unit and hands over nothing, `nxt d` pays one and hands
  over its four landing slots; `d` waits for both before its first transfer.
* landing cell `s` of `d` (rounds 0, 1; one transfer each): round `q` is paid by `prv d`'s transfer of its chunk
  `4 q + s`, and hands over landing slot `s` holding that chunk rounded to bf16.
* send cell `s` of `d` (rounds 0 to 3): round `p` is paid by `d`'s own transfer of chunk `2 p + s`, and hands back
  send slot `s`.
* credit cell of `d` (round 0, four units): unit `k` is paid by `nxt d` once it has read its chunks `0 … k`, and hands
  over the facts that the landing slots `0 … k` of `nxt d` are released and stand at round 1. Units may arrive in any
  order and `d` takes them one at a time, so each carries the facts of the earlier ones too.
* the copies between HBM and the staging slots are the device's own, each waited for by the device that starts it.

The landing slots themselves travel back through an invariant per slot: the reader deposits the slot after its read of
chunk `s < 4`, the writer takes it out, with the released-fact, before it sends chunk `s + 4`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Release
public import Idealize.ShloMosaic.Lib.Transfers
public import Idealize.ShloMosaic.Lib.Ring
public import Mathlib.Tactic.DeriveFintype

@[expose] public section

noncomputable section

namespace Cert.KernelIdeal.Rot

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ghost algebra -/

abbrev UB : Type := URounds (GSem nD τ sig) (Fin 4)
abbrev US : Type := Release.USlots (Dev nD × Fin 4)
abbrev UU : Type := UR sig nD τ × (UB × (US × Counters))

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := (Emb.inl : Emb UB (UB × (US × Counters))).trans embR
abbrev ES : Emb US (MT nD τ sig ℕ (Elt F) ℕ UU ℕ) :=
  ((Emb.inl : Emb US (US × Counters)).trans (Emb.inr : Emb (US × Counters) (UB × (US × Counters)))).trans embR
abbrev EC : UEmb Counters (MT nD τ sig ℕ (Elt F) ℕ UU ℕ) := countersEmb

instance ER_landsIn : (ER (F := F)).LandsIn (upEmb : UEmb _ 𝕄) := by unfold ER; infer_instance
instance ES_landsIn : (ES (F := F)).LandsIn (upEmb : UEmb _ 𝕄) := by unfold ES; infer_instance

/-! ## Views: the chunks of the two arrays, the slots of the four scratch buffers -/

theorem inbX (i : Fin 8) : ∀ a, (![0, 512 * i.val, 0] : Fin 3 → Nat) a + S1x512x2048.size a ≤ S1x4096x2048.size a := by
  revert i; decide
theorem inb2 (s : Fin 2) : ∀ a, (![s.val, 0, 0] : Fin 3 → Nat) a + S1x512x2048.size a ≤ S2x512x2048.size a := by
  revert s; decide
theorem inb4 (s : Fin 4) : ∀ a, (![s.val, 0, 0] : Fin 3 → Nat) a + S1x512x2048.size a ≤ S4x512x2048.size a := by
  revert s; decide
theorem inbS2 (s : Fin 2) : ∀ a, (![s.val] : Fin 1 → Nat) a + S1.size a ≤ S2.size a := by revert s; decide
theorem inbS4 (s : Fin 4) : ∀ a, (![s.val] : Fin 1 → Nat) a + S1.size a ≤ S4.size a := by revert s; decide

/-- Rows `512 i …` of an array of 4096 rows, slot `s` of a buffer of two slots, of a buffer of four. -/
abbrev rX (i : Fin 8) : Rect S1x4096x2048 := Rect.unit (s := S1x4096x2048) ![0, 512 * i.val, 0] S1x512x2048.size (inbX i)
abbrev r2 (s : Fin 2) : Rect S2x512x2048 := Rect.unit (s := S2x512x2048) ![s.val, 0, 0] S1x512x2048.size (inb2 s)
abbrev r4 (s : Fin 4) : Rect S4x512x2048 := Rect.unit (s := S4x512x2048) ![s.val, 0, 0] S1x512x2048.size (inb4 s)

/-- The 512 × 2048 matrix under a rectangle of one chunk. -/
abbrev sq {sp : Space} {s : Shape} {e : EltTy} (M : Memref sig .tc sp s e) (off : Fin s.rank → ℕ) (r : Rect s) (hr : ∀ a, r.stride a = 1)
    (h : r.shape.Squeezes S512x2048) : Memref sig .tc sp S512x2048 e := (M.slice r hr).squeeze S512x2048 h

/-- Chunk `i` of the argument and of the result; slot `s` of the fetch, send, landing and write-back buffers. -/
abbrev xV (i : Fin 8) : Memref sig .tc .hbm S512x2048 .f32 :=
  ((Memref.whole main_arg0 : Memref sig .tc .hbm S1x4096x2048 .f32).slice (rX i) (fun _ => rfl)).squeeze S512x2048 squeezes_S1x512x2048_S512x2048
abbrev oV (i : Fin 8) : Memref sig .tc .hbm S512x2048 .f32 :=
  ((Memref.whole main_v1 : Memref sig .tc .hbm S1x4096x2048 .f32).slice (rX i) (fun _ => rfl)).squeeze S512x2048 squeezes_S1x512x2048_S512x2048
abbrev stV (s : Fin 2) : Memref sig .tc .vmem S512x2048 .f32 :=
  ((Memref.whole cc0_scratch0 : Memref sig .tc .vmem S2x512x2048 .f32).slice (r2 s) (fun _ => rfl)).squeeze S512x2048 squeezes_S1x512x2048_S512x2048
abbrev sdV (s : Fin 2) : Memref sig .tc .vmem S512x2048 .bf16 :=
  ((Memref.whole cc0_scratch1 : Memref sig .tc .vmem S2x512x2048 .bf16).slice (r2 s) (fun _ => rfl)).squeeze S512x2048 squeezes_S1x512x2048_S512x2048
abbrev rcV (s : Fin 4) : Memref sig .tc .vmem S512x2048 .bf16 :=
  ((Memref.whole cc0_scratch2 : Memref sig .tc .vmem S4x512x2048 .bf16).slice (r4 s) (fun _ => rfl)).squeeze S512x2048 squeezes_S1x512x2048_S512x2048
abbrev wbV (s : Fin 2) : Memref sig .tc .vmem S512x2048 .f32 :=
  ((Memref.whole cc0_scratch3 : Memref sig .tc .vmem S2x512x2048 .f32).slice (r2 s) (fun _ => rfl)).squeeze S512x2048 squeezes_S1x512x2048_S512x2048

/-- The fetch and write-back semaphores. -/
abbrev inS (s : Fin 2) : DmaSem sig := (((cc0_scratch4 : DmaSems sig S2).slice (Rect.unit (s := S2) ![s.val] S1.size (inbS2 s))).squeeze S_ squeezes_S1_S_).sem
abbrev ouS (s : Fin 2) : DmaSem sig := (((cc0_scratch5 : DmaSems sig S2).slice (Rect.unit (s := S2) ![s.val] S1.size (inbS2 s))).squeeze S_ squeezes_S1_S_).sem

/-- What a transfer of one chunk in bf16 credits. -/
@[irreducible] def N : ℕ := (rcV 0).view.dmaCredit
theorem N_pos : 0 < N := by unfold N; exact View.dmaCredit_pos _ (by decide)
theorem credit_rc (s : Fin 4) : (rcV s).view.dmaCredit = N := by unfold N; rfl
theorem credit_sd (s : Fin 2) : (sdV s).view.dmaCredit = N := by unfold N; rfl

/-! ## The cells shared between devices -/

/-- The kinds of cell the devices signal and transfer on: barrier, credit, landing slot, send slot. -/
inductive Cl where
  | bar | crd | rcv (s : Fin 4) | snd (s : Fin 2)
deriving DecidableEq, Fintype

/-- The semaphore of a kind. -/
abbrev csem : Cl → SemLoc sig
  | .bar => .reg (SemArray.scalar (sig.barrier 0 rfl) : Sems sig S_).sem
  | .crd => .reg (cc0_scratch8 : Sems sig S_).sem
  | .rcv s => .dma (((cc0_scratch7 : DmaSems sig S4).slice (Rect.unit (s := S4) ![s.val] S1.size (inbS4 s))).squeeze S_ squeezes_S1_S_).sem
  | .snd s => .dma (((cc0_scratch6 : DmaSems sig S2).slice (Rect.unit (s := S2) ![s.val] S1.size (inbS2 s))).squeeze S_ squeezes_S1_S_).sem

theorem csem_injective : Function.Injective csem := by
  intro a b; revert a b; decide

/-- The kind of a semaphore, if it is one of the above. -/
def ck : SemLoc sig → Option Cl := Function.partialInv csem
theorem ck_csem (k : Cl) : ck (csem k) = some k := Function.partialInv_left csem_injective k
theorem ck_none {sm : SemLoc sig} (h : ∀ k, csem k ≠ sm) : ck sm = none := dif_neg fun ⟨k, hk⟩ => h k hk

/-- The cell of kind `k` of device `d`. -/
abbrev cell (d : Dev nD) (k : Cl) : GSem nD τ sig := ((d : Thread nD τ), csem k)

theorem cell_injective {d d' : Dev nD} {k k' : Cl} (h : cell d k = cell d' k') : d = d' ∧ k = k' :=
  ⟨congrArg (fun g : GSem nD τ sig => g.1.1) h, csem_injective (congrArg Prod.snd h)⟩

/-! ## Holding a slot -/

/-- Device `c` holds the elements under `M`, at any contents; -/
abbrev anyv {sp : Space} {e : EltTy} (c : Dev nD) (M : Memref sig .tc sp S512x2048 e) : sProp 𝕄 :=
  Release.slot (M.view.loc (c : Thread nD τ)) M.view.set
/-- at contents `M` reads `V` from; -/
def holds {sp : Space} {e : EltTy} (c : Dev nD) (M : Memref sig .tc sp S512x2048 e) (V : S512x2048.Idx → Elt F e) : sProp 𝕄 :=
  iprop(∃ f : Buf (Elt F) (M.view.loc (c : Thread nD τ)), ⌜M.view.read (Elt F) f = V⌝ ∗ (M.view.loc (c : Thread nD τ) ↦[M.view.set]{fullShare} f))
/-- at the contents `f`. -/
abbrev pts {sp : Space} {e : EltTy} (c : Dev nD) (M : Memref sig .tc sp S512x2048 e) (f : Buf (Elt F) (M.view.loc (c : Thread nD τ))) : sProp 𝕄 :=
  M.view.loc (c : Thread nD τ) ↦[M.view.set]{fullShare} f

instance holds_storable {sp : Space} {e : EltTy} (c : Dev nD) (M : Memref sig .tc sp S512x2048 e) (V : S512x2048.Idx → Elt F e) :
    BI.Storable (upEmb : UEmb _ 𝕄) (holds c M V) := by unfold holds; infer_instance

omit [FloatOps F] in
theorem holds_any {sp : Space} {e : EltTy} (c : Dev nD) (M : Memref sig .tc sp S512x2048 e) (V : S512x2048.Idx → Elt F e) :
    holds c M V ⊢ anyv c M := by
  unfold holds anyv Release.slot
  iintro ⟨%f, -, H⟩
  iexists f; iexact H

omit [FloatOps F] in
theorem anyv_false {sp : Space} {e : EltTy} (c : Dev nD) (M : Memref sig .tc sp S512x2048 e) :
    iprop(anyv c M ∗ anyv c M) ⊢ (False : sProp 𝕄) :=
  Release.slot_slot_false (by
    unfold View.set
    exact Finset.map_nonempty.mpr (Finset.univ_nonempty_iff.mpr ⟨Shape.rowMajor _ |>.symm ⟨0, by decide⟩⟩))

/-! ## Contents -/

variable (m : (ℓ : Loc nD τ sig) → Buf (Elt F) ℓ) (π : Equiv.Perm (Dev nD))

/-- The device a device sends to, and the one it receives from. -/
abbrev nxt (c : Dev nD) : Dev nD := π c
abbrev prv (c : Dev nD) : Dev nD := π.symm c

/-- Chunk `i` of device `c`'s shard; that chunk as it is sent; and as its receiver writes it out. -/
def xc (c : Dev nD) (i : Fin 8) : S512x2048.Idx → Elt F .f32 := (xV i).view.read (Elt F) (m ((c : Thread nD τ).loc main_arg0))
def bc (c : Dev nD) (i : Fin 8) : S512x2048.Idx → Elt F .bf16 := (truncf .bf16 (xc m c i : FVec F S512x2048 .f32) bitsLt_bf16_f32 : FVec F S512x2048 .bf16)
def zc (c : Dev nD) (i : Fin 8) : S512x2048.Idx → Elt F .f32 := (extf .f32 (bc m c i : FVec F S512x2048 .bf16) bitsLt_bf16_f32 : FVec F S512x2048 .f32)

/-! ## The schedule -/

/-- Chunk `4 q + s`, the one landing in slot `s` in round `q`. -/
def chunk (q : ℕ) (s : Fin 4) : Fin 8 := ⟨(4 * q + s.val) % 8, Nat.mod_lt _ (by decide)⟩

/-- The four landing slots of `d`, at any contents. -/
def landing (d : Dev nD) : sProp 𝕄 := iprop(anyv d (rcV 0) ∗ anyv d (rcV 1) ∗ anyv d (rcV 2) ∗ anyv d (rcV 3))
/-- Landing slot `s` of `d` has been released, and its cell stands at round 1. -/
def freed (d : Dev nD) (s : Fin 4) : sProp 𝕄 := iprop(Release.released ES (d, s) 1 ∗ reached ER (cell d (.rcv s)) 1)
/-- That, of every slot up to the `k`-th. -/
def freedTo (d : Dev nD) : ℕ → sProp 𝕄
  | 0 => freed d 0
  | k + 1 => iprop(freed d ⟨(k + 1) % 4, Nat.mod_lt _ (by decide)⟩ ∗ freedTo d k)

instance freed_storable (d : Dev nD) (s : Fin 4) : BI.Storable (upEmb : UEmb _ 𝕄) (freed (F := F) d s) := by unfold freed; infer_instance
instance freed_persistent (d : Dev nD) (s : Fin 4) : BI.Persistent (freed (F := F) d s) := by unfold freed; infer_instance
instance freedTo_storable (d : Dev nD) : ∀ k, BI.Storable (upEmb : UEmb _ 𝕄) (freedTo (F := F) d k)
  | 0 => by unfold freedTo; infer_instance
  | k + 1 => by unfold freedTo; have := freedTo_storable d k; infer_instance
instance freedTo_persistent (d : Dev nD) : ∀ k, BI.Persistent (freedTo (F := F) d k)
  | 0 => by unfold freedTo; infer_instance
  | k + 1 => by unfold freedTo; have := freedTo_persistent d k; infer_instance
instance landing_storable (d : Dev nD) : BI.Storable (upEmb : UEmb _ 𝕄) (landing (F := F) d) := by unfold landing; infer_instance

/-- Who pays a round of a cell of each kind, -/
def dutiesC : Cl → ℕ → Finset (Fin 4)
  | .bar, r => if r = 0 then {0, 1} else ∅
  | .crd, r => if r = 0 then Finset.univ else ∅
  | .rcv _, r => if r < 2 then {0} else ∅
  | .snd _, r => if r < 4 then {0} else ∅
/-- how much each pays, -/
def amountC : Cl → ℕ
  | .bar => 1
  | .crd => 1
  | .rcv _ => N
  | .snd _ => N
/-- and what each hands over to the cell's device `d`. -/
def payC (d : Dev nD) : Cl → ℕ → Fin 4 → sProp 𝕄
  | .bar, _, k => if k = 1 then landing (nxt π d) else iprop(emp)
  | .crd, _, k => freedTo (nxt π d) k.val
  | .rcv s, q, _ => holds d (rcV s) (bc m (prv π d) (chunk q s))
  | .snd s, _, _ => anyv d (sdV s)

theorem amountC_pos : ∀ k : Cl, 0 < amountC k
  | .bar => Nat.one_pos
  | .crd => Nat.one_pos
  | .rcv _ => N_pos
  | .snd _ => N_pos

instance payC_storable (d : Dev nD) : ∀ (k : Cl) (r : ℕ) (j : Fin 4), BI.Storable (upEmb : UEmb _ 𝕄) (payC m π d k r j)
  | .bar, _, k => by
    show BI.Storable upEmb (if k = 1 then landing (nxt π d) else iprop(emp))
    by_cases h : k = 1
    · rw [if_pos h]; infer_instance
    · rw [if_neg h]; infer_instance
  | .crd, _, k => by unfold payC; infer_instance
  | .rcv s, q, _ => by unfold payC; infer_instance
  | .snd s, _, _ => by unfold payC; infer_instance

/-- The schedule of all cells. -/
def Rd : Rounds.Schedule (GSem nD τ sig) (Fin 4) 𝕄 where
  duties g r := (ck g.2).elim ∅ fun k => dutiesC k r
  unitless _ := False
  amount g _ _ := (ck g.2).elim 1 amountC
  payload g r j := (ck g.2).elim iprop(emp) fun k => payC m π g.1.1 k r j
  amount_pos g _ _ _ := by
    show 0 < (ck g.2).elim 1 amountC
    cases h : ck g.2 with
    | none => exact Nat.one_pos
    | some k => exact amountC_pos k

instance Rd_storable (g : GSem nD τ sig) (r : ℕ) (j : Fin 4) : BI.Storable (upEmb : UEmb _ 𝕄) ((Rd m π).payload g r j) := by
  show BI.Storable upEmb ((ck g.2).elim iprop(emp) fun k => payC m π g.1.1 k r j)
  cases ck g.2
  · show BI.Storable upEmb iprop(emp); infer_instance
  · show BI.Storable upEmb (payC m π g.1.1 _ r j); infer_instance

theorem Rd_duties (d : Dev nD) (k : Cl) (r : ℕ) : (Rd m π).duties (cell d k) r = dutiesC k r := by
  show (ck (csem k)).elim ∅ (fun k => dutiesC k r) = _; rw [ck_csem]; rfl
theorem Rd_amount (d : Dev nD) (k : Cl) (r : ℕ) (j : Fin 4) : (Rd m π).amount (cell d k) r j = amountC k := by
  show (ck (csem k)).elim 1 amountC = _; rw [ck_csem]; rfl
theorem Rd_payload (d : Dev nD) (k : Cl) (r : ℕ) (j : Fin 4) : (Rd m π).payload (cell d k) r j = payC m π d k r j := by
  show (ck (csem k)).elim iprop(emp) (fun k => payC m π d k r j) = _; rw [ck_csem]; rfl
theorem Rd_expect (d : Dev nD) (k : Cl) (r : ℕ) : (Rd m π).expect (cell d k) r = (dutiesC k r).card * amountC k := by
  unfold Schedule.expect Schedule.amountOf
  rw [Rd_duties, Finset.sum_congr rfl fun j _ => Rd_amount m π d k r j, Finset.sum_const, smul_eq_mul]

/-- The rounds a cell of each kind has, -/
def roundsC : Cl → ℕ
  | .bar => 1
  | .crd => 1
  | .rcv _ => 2
  | .snd _ => 4
/-- and none later. -/
theorem Rd_later (d : Dev nD) (k : Cl) : ∀ r, roundsC k ≤ r → (Rd m π).duties (cell d k) r = ∅ := fun r hr => by
  rw [Rd_duties]
  cases k <;> simp only [roundsC] at hr <;> simp only [dutiesC] <;> rw [if_neg (by omega)]

/-! ## What a device owes, in program order; the levels -/

/-- A device's payments to other devices: a unit on its receiver's barrier and on its sender's, the transfer of chunk
    `i`, the credit for chunk `k`. -/
inductive Pay where
  | barN | barP | send (i : Fin 8) | cred (k : Fin 4)
deriving DecidableEq

/-- The device paid by device `c`, the kind of cell, the index of the wait it serves and the amount. -/
def Pay.dev (c : Dev nD) : Pay → Dev nD
  | .barN => nxt π c
  | .barP => prv π c
  | .send _ => nxt π c
  | .cred _ => prv π c
def Pay.kind : Pay → Cl
  | .barN => .bar
  | .barP => .bar
  | .send i => .rcv ⟨i.val % 4, Nat.mod_lt _ (by decide)⟩
  | .cred _ => .crd
def Pay.ix : Pay → ℕ
  | .barN => 0
  | .barP => 0
  | .send i => i.val
  | .cred k => k.val
def Pay.amt : Pay → ℕ
  | .barN => 1
  | .barP => 1
  | .send _ => N
  | .cred _ => 1

/-- The tally of a list of payments, the first of the list its last summand. -/
def tal (c : Dev nD) : List Pay → CellTallies nD τ sig ℕ
  | [] => 0
  | p :: l => tal c l + tallyAt (cell (p.dev π c) p.kind) p.ix p.amt

/-- All of a device's payments, in program order. -/
def allPays : List Pay :=
  [.barN, .barP, .send 0, .send 1, .send 2, .cred 0, .send 3, .cred 1, .send 4, .cred 2, .send 5, .cred 3, .send 6, .send 7]

/-- The level of a wait on a cell of a kind at an index: the device's own copies and sends below everything, then the
    barrier, then landing and credit alternating in the order the chunks go. -/
def lvC : Cl → ℕ → ℕ
  | .bar, _ => 1
  | .crd, k => 3 + 2 * k
  | .rcv _, i => 2 + 2 * i
  | .snd _, _ => 0

def L (g : GSem nD τ sig) : Finset ℕ := if g.1.2 = .tc then Finset.range 8 else ∅
def lv (g : GSem nD τ sig) (u : ℕ) : ℕ := (ck g.2).elim 0 fun k => lvC k u

theorem L_of_ne (g : GSem nD τ sig) (h : g.1.2 ≠ .tc) : L g = ∅ := if_neg h
theorem L_tc (c : Dev nD) (sm : SemLoc sig) : L ((c : Thread nD τ), sm) = Finset.range 8 := if_pos rfl
theorem lv_cell (c : Dev nD) (k : Cl) (u : ℕ) : lv (cell c k) u = lvC k u := by
  unfold lv; show (ck (csem k)).elim 0 _ = _; rw [ck_csem]; rfl

/-- The levels, known to every device. -/
@[irreducible] def levs : sProp 𝕄 := levAts L lv
instance levs_persistent : BI.Persistent (levs : sProp 𝕄) := by unfold levs; infer_instance

theorem tal_pos {c : Dev nD} : ∀ {l : List Pay} {g : GSem nD τ sig} {u : ℕ}, 0 < tal π c l g u →
    ∃ p ∈ l, g = cell (p.dev π c) p.kind ∧ u = p.ix
  | [], g, u, h => absurd h (Nat.lt_irrefl 0)
  | p :: l, g, u, h => by
    unfold tal at h
    rw [Pi.add_apply, Finsupp.add_apply, tallyAt_apply] at h
    by_cases hp : g = cell (p.dev π c) p.kind ∧ u = p.ix
    · exact ⟨p, List.mem_cons_self, hp⟩
    · rw [if_neg hp] at h
      obtain ⟨p', hp', h'⟩ := tal_pos (l := l) h
      exact ⟨p', List.mem_cons_of_mem _ hp', h'⟩

theorem Pay.ix_lt (p : Pay) : p.ix < 8 := by
  cases p with
  | barN => decide
  | barP => decide
  | send i => exact i.isLt
  | cred k => exact Nat.lt_of_lt_of_le k.isLt (by decide)

omit [FloatOps F] in
/-- A device owing the payments `l` may wait on its semaphore `sm` at index `u` if that wait's level is at most `b` and every
    payment's is above. -/
theorem mayWait_tal (c : Dev nD) (sm : SemLoc sig) (u : ℕ) (l : List Pay) (b : ℕ) (hu : u < 8)
    (hb : lv ((c : Thread nD τ), sm) u ≤ b) (hl : (l.all fun p => decide (b < lvC p.kind p.ix)) = true) :
    (levs : sProp 𝕄) ⊢ MayWait (c : Thread nD τ) sm u (tal π c l) := by
  unfold levs
  refine MayOwe.of_cut (L := L) (lev := lv) b (fun p hp => by rw [Finset.mem_singleton.mp hp, L_tc]; exact Finset.mem_range.mpr hu)
    (fun g u' hg => ?_) (fun p hp => by rw [Finset.mem_singleton.mp hp]; exact hb) (fun g u' hg => ?_)
  · obtain ⟨p, hp, rfl, rfl⟩ := tal_pos π hg
    rw [L_tc]; exact Finset.mem_range.mpr p.ix_lt
  · obtain ⟨p, hp, rfl, rfl⟩ := tal_pos π hg
    rw [lv_cell]; exact of_decide_eq_true (List.all_eq_true.mp hl p hp)

/-- Device `c` owes the payments `l`, having waited wherever it has. -/
def Owes (c : Dev nD) (l : List Pay) : sProp 𝕄 := iprop(∃ W, owes (c : Thread nD τ) (tal π c l) W)

end Cert.KernelIdeal.Rot

end
-- ==== Proof.KernelIdeal.Steps.lean ====
/-
# The steps of a device

One lemma per kind of operation of the body, at any device `c`, any chunk and any slot: a copy started and waited for, a
slot loaded and stored, a transfer, a signal, and the waits for a transfer's two ends, for a credit and for the barrier.
-/
module

public import proofs.«01_k».proof.Proof.KernelIdeal.Proto

@[expose] public section

set_option maxRecDepth 8000

noncomputable section

namespace Cert.KernelIdeal.Rot

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

abbrev 𝒱₀ : Variants := Variants.none

/-- A program of device `c` to run, with its postcondition. -/
abbrev run (c : Dev nD) {α : Type} (e : Prog (TpuEff nD τ sig (Elt F) Λ₀ .tc) α) (Q : α → sProp 𝕄) : sProp 𝕄 :=
  wp frame (wpE (defs₀ (F := F)) 𝒱₀ (c : Thread nD τ) none) Set.univ e Q

variable {α : Type} {Q : α → sProp (MT nD τ sig ℕ (Elt F) ℕ UU ℕ)}

/-! ## Loads and stores of a slot -/

section Slot

variable (c : Dev nD) {cs : CoreSpace} {s : Shape} {e : EltTy} {A : Memref sig .tc cs s e} {r : Rect s}
  (hr : ∀ a, r.stride a = 1) (hq : r.shape.Squeezes S512x2048)

/-- A load of a slot held at `V` returns `V`, in the slot's own shape. -/
theorem wp_ld {V : S512x2048.Idx → Elt F e} {hl : A.view.LoadsAt r.toLoadRect} (hs : S512x2048.ShapeCasts r.shape)
    {k : (r.shape.Idx → Elt F e) → Prog (TpuEff nD τ sig (Elt F) Λ₀ .tc) α} :
    holds c ((A.slice r hr).squeeze S512x2048 hq) V
      ⊢ iprop((holds c ((A.slice r hr).squeeze S512x2048 hq) V -∗ run c (k (shapeCast r.shape V hs)) Q)
          -∗ run c (.op (.load A r.toLoadRect hl) k) Q) := by
  unfold holds
  iintro ⟨%f, %hf, Hf⟩ Hk
  have hread : (A.access r).read (Elt F) f = shapeCast r.shape V hs := by
    subst hf
    funext x
    show _ = (A.access r).read (Elt F) f (Shape.reshapeEquiv _ (Shape.reshapeEquiv _ x))
    rw [Shape.reshapeEquiv_reshapeEquiv, Shape.reshapeEquiv_self]
  iapply (wp_load_rect 𝒱₀ (c : Thread nD τ) none Set.univ (m := A) (r := r)
    (subset_of_eq (View.set_reshape (A.access r) hq.numel_eq).symm)) $$ Hf
  iintro Hf
  rw [hread]
  iapply Hk
  iexists f
  isplitr; · ipureintro; exact hf
  iexact Hf

/-- A load of a slot at any contents. -/
theorem wp_ld_any {hl : A.view.LoadsAt r.toLoadRect} {k : (r.shape.Idx → Elt F e) → Prog (TpuEff nD τ sig (Elt F) Λ₀ .tc) α} :
    anyv c ((A.slice r hr).squeeze S512x2048 hq)
      ⊢ iprop((∀ w, anyv c ((A.slice r hr).squeeze S512x2048 hq) -∗ run c (k w) Q)
          -∗ run c (.op (.load A r.toLoadRect hl) k) Q) := by
  unfold anyv Release.slot
  iintro ⟨%f, Hf⟩ Hk
  iapply (wp_load_rect 𝒱₀ (c : Thread nD τ) none Set.univ (m := A) (r := r)
    (subset_of_eq (View.set_reshape (A.access r) hq.numel_eq).symm)) $$ Hf
  iintro Hf
  iapply Hk
  iexists f
  iexact Hf

/-- A store of `V`, in the slot's own shape, to a slot. -/
theorem wp_st {w : r.shape.Idx → Elt F e} {hx : (A.access r).Stores Finset.univ}
    {hm : (Finset.univ : Finset r.shape.Idx) = Finset.univ ∨ ∀ a, r.stride a = 1}
    {k : PUnit → Prog (TpuEff nD τ sig (Elt F) Λ₀ .tc) α} (V : S512x2048.Idx → Elt F e) (hs : S512x2048.ShapeCasts r.shape)
    (hw : w = shapeCast r.shape V hs) :
    anyv c ((A.slice r hr).squeeze S512x2048 hq)
      ⊢ iprop((holds c ((A.slice r hr).squeeze S512x2048 hq) V -∗ run c (k ⟨⟩) Q)
          -∗ run c (.op (.store A r w Finset.univ hx hm) k) Q) := by
  subst hw
  unfold anyv Release.slot holds
  iintro ⟨%f, Hf⟩ Hk
  iapply (wp_store 𝒱₀ (c : Thread nD τ) none Set.univ (m := A) (r := r) (Mk := Finset.univ)
    (subset_of_eq (View.set_reshape (A.access r) hq.numel_eq).symm)) $$ Hf
  iintro Hf
  iapply Hk
  iexists _
  isplitr
  · ipureintro
    show (((A.access r).reshape S512x2048 hq.numel_eq).read (Elt F) ((A.access r).write (Elt F) f (shapeCast r.shape V hs) Finset.univ)) = V
    funext x
    show (A.access r).read (Elt F) ((A.access r).write (Elt F) f (shapeCast r.shape V hs) Finset.univ) (Shape.reshapeEquiv _ x) = V x
    rw [View.read_write_univ]
    show V (Shape.reshapeEquiv _ (Shape.reshapeEquiv _ x)) = V x
    rw [Shape.reshapeEquiv_reshapeEquiv, Shape.reshapeEquiv_self]
  iexact Hf

end Slot

/-! ## The device's own copies -/

/-- A copy in flight from `src`, held at the contents `fs`, to `dst`. -/
def Fly {sp sp' : Space} {e : EltTy} (c : Dev nD) (src : Memref sig .tc sp S512x2048 e) (dst : Memref sig .tc sp' S512x2048 e) (sm : DmaSem sig)
    (fs : Buf (Elt F) (src.view.loc (c : Thread nD τ))) (V : S512x2048.Idx → Elt F e) : sProp 𝕄 :=
  Transfers.Flight EC (c : Thread nD τ) (.dma sm) 0 dst.view.dmaCredit iprop(holds c dst V ∗ pts c src fs)

theorem wp_copy {sp sp' : Space} {e : EltTy} (c : Dev nD) {src : Memref sig .tc sp S512x2048 e} {dst : Memref sig .tc sp' S512x2048 e} {sm : DmaSem sig}
    {hsrc : src.view.WordExact} {hdst : dst.view.WordExact} {hsem : DmaTarget.Typed (nD := nD) (τ := τ) (p := (.tc : Proc τ)) sp (.dma sm) (.here dst)}
    {k : PUnit → Prog (TpuEff nD τ sig (Elt F) Λ₀ .tc) α} (fs : Buf (Elt F) (src.view.loc (c : Thread nD τ)))
    (V : S512x2048.Idx → Elt F e) (hV : src.view.read (Elt F) fs = V) (h0 : 0 < dst.view.dmaCredit) :
    pts c src fs
      ⊢ iprop(anyv c dst -∗ semVal (((c : Thread nD τ), SemLoc.dma sm) : GSem nD τ sig) 0
          -∗ (Fly c src dst sm fs V -∗ run c (k ⟨⟩) Q)
          -∗ run c (.op (.enqueueDma src (.here dst) (.dma sm) hsrc hdst hsem) k) Q) := by
  subst hV
  unfold anyv Release.slot
  iintro Hs ⟨%fd, Hd⟩ Hv Hk
  iapply (Transfers.wp_dmaLocal EC 𝒱₀ (c : Thread nD τ) none (src := src) (dst := dst) (q := fullShare) (fs := fs)
    (Sd := dst.view.set) (fd := fd) 0 dst.view.dmaCredit rfl h0 (subset_refl _)) $$ [Hs Hd Hv]
  · isplitl [Hs]; · iexact Hs
    isplitl [Hd] <;> iassumption
  iintro Hf
  iapply Hk
  unfold Fly
  have hD : iprop((dst.view.loc (c : Thread nD τ) ↦[dst.view.set]{fullShare} (dst.view.write (Elt F) fd (src.view.read (Elt F) fs) Finset.univ)) ∗ pts c src fs)
      ⊢ iprop(holds c dst (src.view.read (Elt F) fs) ∗ pts c src fs) := by
    refine sep_mono_left ?_
    unfold holds
    iintro H
    iexists (dst.view.write (Elt F) fd (src.view.read (Elt F) fs) Finset.univ)
    isplitr
    · ipureintro; exact View.read_write_univ _ _
    iexact H
  iapply (Transfers.Flight_mono EC (c : Thread nD τ) hD) $$ Hf

/-- A copy waited for: source and destination come back, the semaphore is at zero. -/
theorem wp_copied {sp sp' : Space} {e : EltTy} (c : Dev nD) {src : Memref sig .tc sp S512x2048 e} {dst : Memref sig .tc sp' S512x2048 e} {sm : DmaSem sig}
    {hsrc : src.view.WordExact} {hdst : dst.view.WordExact} (π : Equiv.Perm (Dev nD)) (l : List Pay)
    {k : PUnit → Prog (TpuEff nD τ sig (Elt F) Λ₀ .tc) α} {fs : Buf (Elt F) (src.view.loc (c : Thread nD τ))}
    {V : S512x2048.Idx → Elt F e} (hk : ∀ k, csem k ≠ .dma sm) (hl : (l.all fun p => decide (0 < lvC p.kind p.ix)) = true) :
    Fly c src dst sm fs V
      ⊢ iprop(Owes π c l -∗ levs
          -∗ (holds c dst V -∗ pts c src fs -∗ semVal (((c : Thread nD τ), SemLoc.dma sm) : GSem nD τ sig) 0 -∗ Owes π c l -∗ run c (k ⟨⟩) Q)
          -∗ run c (.op (.waitDma2 sm src dst hsrc hdst) k) Q) := by
  unfold Fly Owes
  iintro Hf ⟨%W, HO⟩ #Hlev Hk
  iapply (Transfers.wp_waitLocalO EC 𝒱₀ (c : Thread nD τ) none (srcw := src) (dstw := dst) 0 rfl) $$ [Hf HO]
  · isplitl [Hf]; · iexact Hf
    isplitl [HO]; · iexact HO
    iapply (mayWait_tal π c (.dma sm) 0 l 0 (by decide) (le_of_eq (by unfold lv; rw [ck_none hk]; rfl)) hl); iexact Hlev
  iintro ⟨⟨Hd, Hs⟩, Hv, HO⟩
  iapply Hk $$ Hd Hs Hv
  iexists _; iexact HO

/-! ## The shared cells -/

variable (m : (ℓ : Loc nD τ sig) → Buf (Elt F) ℓ) (π : Equiv.Perm (Dev nD))
variable (K : Dev nD × Cl → ℕ) (KS : Dev nD × Fin 4 → ℕ)

/-- What every device knows throughout: the cells' invariants and that round 0 is reached; the landing slots' invariants; -/
def recCells : sProp 𝕄 :=
  bigSep Finset.univ fun p : Dev nD × Cl => iprop(cellInv ER (Rd m π) (K p) (cell p.1 p.2) ∗ reached ER (cell p.1 p.2) 0)
def recSlots : sProp 𝕄 := bigSep Finset.univ fun p : Dev nD × Fin 4 => Release.slotInv ES (KS p) p (anyv p.1 (rcV p.2))
/-- and the levels. -/
def records : sProp 𝕄 := iprop(recCells m π K ∗ recSlots KS ∗ levs)

instance recCells_persistent : BI.Persistent (recCells m π K) := by unfold recCells; infer_instance
instance recSlots_persistent : BI.Persistent (recSlots (F := F) KS) := by unfold recSlots; infer_instance
instance records_persistent : BI.Persistent (records m π K KS) := by unfold records; infer_instance

theorem rec_lev : records m π K KS ⊢ levs := by
  unfold records
  iintro ⟨-, -, H⟩; iexact H
theorem rec_cell (d : Dev nD) (k : Cl) : records m π K KS ⊢ iprop(cellInv ER (Rd m π) (K (d, k)) (cell d k) ∗ reached ER (cell d k) 0) := by
  unfold records recCells
  exact sep_elim_left.trans (bigSep_elim (Finset.mem_univ (d, k)))
theorem rec_slot (d : Dev nD) (s : Fin 4) : records m π K KS ⊢ Release.slotInv ES (KS (d, s)) (d, s) (anyv d (rcV s)) := by
  unfold records recSlots
  exact sep_elim_right.trans (sep_elim_left.trans (bigSep_elim (Finset.mem_univ (d, s))))

/-- The two duties of the transfer of the chunk that leaves from send slot `s` in round `p` and lands in slot `t` in round `q`. -/
def sendTok (c : Dev nD) (s : Fin 2) (p : ℕ) (t : Fin 4) (q : ℕ) : sProp 𝕄 :=
  iprop(dutyTok ER (cell c (.snd s)) p 0 ∗ dutyTok ER (cell (nxt π c) (.rcv t)) q 0)
/-- Send cell `s` stands at round `p` with nothing in flight; with a transfer in flight. -/
def SndAt (c : Dev nD) (s : Fin 2) (p : ℕ) : sProp 𝕄 :=
  iprop(atPos ER (cell c (.snd s)) p ∅ 0 ∗ reached ER (cell c (.snd s)) p)
def SndFly (c : Dev nD) (s : Fin 2) (p : ℕ) : sProp 𝕄 :=
  iprop(atPos ER (cell c (.snd s)) p ∅ 0 ∗ cred (tallyAt (cell c (.snd s)) 0 N))
/-- Landing slot `t` of the receiver, and that its cell stands at round `q`. -/
def Land (c : Dev nD) (t : Fin 4) (q : ℕ) : sProp 𝕄 :=
  iprop(anyv (nxt π c) (rcV t) ∗ reached ER (cell (nxt π c) (.rcv t)) q)

/-- The transfer of chunk `i`. -/
theorem wp_send (c n : Dev nD) (hn : n = nxt π c) (i : Fin 8) (s : Fin 2) (p : ℕ) (t : Fin 4) (q : ℕ) (l : List Pay)
    (hp : p < 4) (hq : q < 2) (ht : (Pay.send i).kind = .rcv t) (hi : chunk q t = i)
    {hsc : (rcV t : Memref sig (Dev.tc n : Thread nD τ).2.kind .vmem S512x2048 .bf16).view.ref.isScScratch = false}
    {ss rs : DmaSem sig} (hss : SemLoc.dma ss = csem (.snd s)) (hrs : SemLoc.dma rs = csem (.rcv t))
    {hsrc : (sdV s).view.WordExact} {hdst : (rcV t).view.WordExact}
    {hsem : DmaTarget.Typed .vmem (.dma rs) (.remote (Dev.tc n : Thread nD τ) (rcV t : Memref sig .tc .vmem S512x2048 .bf16) (.dma ss) hsc)}
    {k : PUnit → Prog (TpuEff nD τ sig (Elt F) Λ₀ .tc) α} :
    records m π K KS
      ⊢ iprop(holds c (sdV s) (bc m c i) -∗ Land π c t q -∗ Owes π c (.send i :: l) -∗ sendTok π c s p t q -∗ SndAt c s p
          -∗ (SndFly c s p -∗ Owes π c l -∗ run c (k ⟨⟩) Q)
          -∗ run c (.op (.enqueueDma (sdV s) (.remote (Dev.tc n : Thread nD τ) (rcV t) (.dma ss) hsc) (.dma rs) hsrc hdst hsem) k) Q) := by
  subst hn
  cases hss
  cases hrs
  unfold holds Land Owes sendTok SndAt SndFly anyv Release.slot
  iintro #Hrec ⟨%f, %hf, Hs⟩ ⟨⟨%fd, Hd⟩, #Hrd⟩ ⟨%W, HO⟩ ⟨Ht1, Ht2⟩ ⟨Hat, #Hrs⟩ Hk
  ihave ⟨#HI1, -⟩ := (rec_cell m π K KS c (.snd s)) $$ Hrec
  ihave ⟨#HI2, -⟩ := (rec_cell m π K KS (nxt π c) (.rcv t)) $$ Hrec
  have hO : tal π c (.send i :: l) = tal π c l + tallyAt (cell (nxt π c) (.rcv t)) i.val N := by
    show tal π c l + tallyAt (cell (nxt π c) (Pay.send i).kind) i.val N = _
    rw [ht]
  iapply (Rounds.wp_send_pointsTo 𝒱₀ ER (Rd m π) (c : Thread nD τ) none (c' := (nxt π c : Thread nD τ)) (src := sdV s) (dst := rcV t) (sS := csem (.snd s)) (sem := csem (.rcv t))
      (κ₁ := K (c, .snd s)) (κ₂ := K (nxt π c, .rcv t))
      (r₁ := p) (r₂ := q) (d₁ := 0) (d₂ := 0) (fs := f) (fd := fd)
      (by rw [Rd_duties m π c (.snd s)]; simp only [dutiesC]; rw [if_pos hp]; exact Finset.mem_singleton_self _)
      (by rw [Rd_duties m π (nxt π c) (.rcv t)]; simp only [dutiesC]; rw [if_pos hq]; exact Finset.mem_singleton_self _)
      i.val 0 N (show (rcV t).view.amount (csem (.rcv t)) = N from credit_rc t) (Rd_amount m π c (.snd s) p 0) (Rd_amount m π (nxt π c) (.rcv t) q 0) (tal π c l)
      (O₀ := tal π c (.send i :: l)) hO
      (by rw [Rd_payload m π c (.snd s)]; unfold payC anyv Release.slot
          iintro H; iexists _; iexact H)
      (by rw [Rd_payload m π (nxt π c) (.rcv t)]; unfold payC holds
          iintro H; iexists ((rcV t).view.write (Elt F) fd ((sdV s).view.read (Elt F) f) Finset.univ)
          isplitr
          · ipureintro; rw [View.read_write_univ, hf, hi]; show _ = bc m (π.symm (π c)) i; rw [Equiv.symm_apply_apply]
          iexact H)) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hrs
    isplitl [Ht2]; · iexact Ht2
    iexact Hrd
  iintro ⟨Hc, HO⟩
  iapply Hk $$ [Hat Hc]
  · isplitl [Hat] <;> iassumption
  iexists _; iexact HO

/-- The wait for a transfer to have left its send slot. -/
theorem wp_sent (c : Dev nD) (s : Fin 2) (p : ℕ) (l : List Pay) (hp : p < 4) {sp sp' : Space} {e e' : EltTy} {sh sh' : Shape} {κ : Kind}
    {sm : DmaSem sig} (hsm : SemLoc.dma sm = csem (.snd s))
    {M : Memref sig .tc sp sh e} {M' : Memref sig κ sp' sh' e'} (hM : M'.view.dmaCredit = N) {h1 : M.view.WordExact} {h2 : M'.view.WordExact}
    (hl : (l.all fun p => decide (0 < lvC p.kind p.ix)) = true) {k : PUnit → Prog (TpuEff nD τ sig (Elt F) Λ₀ .tc) α} :
    records m π K KS
      ⊢ iprop(SndFly c s p -∗ Owes π c l -∗ (anyv c (sdV s) -∗ SndAt c s (p + 1) -∗ Owes π c l -∗ run c (k ⟨⟩) Q)
          -∗ run c (.op (.waitDma2 sm M M' h1 h2) k) Q) := by
  cases hsm
  unfold Owes SndAt SndFly
  iintro #Hrec ⟨Hat, Hc⟩ ⟨%W, HO⟩ Hk
  ihave ⟨#HI, -⟩ := (rec_cell m π K KS c (.snd s)) $$ Hrec
  ihave #Hlev := (rec_lev m π K KS) $$ Hrec
  iapply (Rounds.wp_wait_rest_token 𝒱₀ ER (Rd m π) (c : Thread nD τ) none (κ := K (c, .snd s)) (k' := N)
      (fun KK => (wpE_waitDma2_eq 𝒱₀ (c : Thread nD τ) none Set.univ KK).trans (by rw [hM])) (Set.mem_univ _) 0 (O := tal π c l) (W := W) (R := p) (m := 0) (T := ∅)
      (by rw [Rd_expect m π c (.snd s)]; simp only [dutiesC, amountC]; rw [if_pos hp, Finset.card_singleton, one_mul, zero_add])) $$ [Hc HO Hat]
  · isplitr; · iexact HI
    isplitl [Hc]; · iexact Hc
    isplitl [HO]; · iexact HO
    isplitr; · iapply (mayWait_tal π c (csem (.snd s)) 0 l 0 (by decide) (le_of_eq (lv_cell c (.snd s) 0)) hl); iexact Hlev
    iexact Hat
  iintro ⟨HO, Hat, #Hr, Hpay⟩
  have hpay : bigSep ((Rd m π).duties (cell c (.snd s)) p \ ∅) (fun d => (Rd m π).payload (cell c (.snd s)) p d) = anyv c (sdV s) := by
    rw [Rd_duties m π c (.snd s), Finset.sdiff_empty]; simp only [dutiesC]; rw [if_pos hp, bigSep_singleton, Rd_payload m π c (.snd s)]; rfl
  ihave Hp := (Entails.of_eq hpay) $$ Hpay
  iapply Hk $$ Hp [Hat]
  · isplitl [Hat]; · iexact Hat
    iexact Hr
  iexists _; iexact HO

/-- Landing cell `t` stands at round `q`. -/
abbrev RcvAt (c : Dev nD) (t : Fin 4) (q : ℕ) : sProp 𝕄 := atPos ER (cell c (.rcv t)) q ∅ 0

/-- The wait for chunk `i` of the sender to have landed. -/
theorem wp_landed (c : Dev nD) (i : Fin 8) (t : Fin 4) (q : ℕ) (l : List Pay) (hq : q < 2) (hi : chunk q t = i)
    {sp sp' : Space} {e e' : EltTy} {sh sh' : Shape} {κ : Kind}
    {sm : DmaSem sig} (hsm : SemLoc.dma sm = csem (.rcv t))
    {M : Memref sig .tc sp sh e} {M' : Memref sig κ sp' sh' e'} (hM : M'.view.dmaCredit = N) {h1 : M.view.WordExact} {h2 : M'.view.WordExact}
    (hl : (l.all fun p => decide (2 + 2 * i.val < lvC p.kind p.ix)) = true) {k : PUnit → Prog (TpuEff nD τ sig (Elt F) Λ₀ .tc) α} :
    records m π K KS
      ⊢ iprop(RcvAt c t q -∗ cred (tallyAt (cell c (.rcv t)) i.val N) -∗ Owes π c l
          -∗ (holds c (rcV t) (bc m (prv π c) i) -∗ RcvAt c t (q + 1) -∗ reached ER (cell c (.rcv t)) (q + 1) -∗ Owes π c l -∗ run c (k ⟨⟩) Q)
          -∗ run c (.op (.waitDma2 sm M M' h1 h2) k) Q) := by
  cases hsm
  unfold Owes
  iintro #Hrec Hat Hc ⟨%W, HO⟩ Hk
  ihave ⟨#HI, -⟩ := (rec_cell m π K KS c (.rcv t)) $$ Hrec
  ihave #Hlev := (rec_lev m π K KS) $$ Hrec
  iapply (Rounds.wp_wait_rest_token 𝒱₀ ER (Rd m π) (c : Thread nD τ) none (κ := K (c, .rcv t)) (k' := N)
      (fun KK => (wpE_waitDma2_eq 𝒱₀ (c : Thread nD τ) none Set.univ KK).trans (by rw [hM])) (Set.mem_univ _) i.val (O := tal π c l) (W := W) (R := q) (m := 0) (T := ∅)
      (by rw [Rd_expect m π c (.rcv t)]; simp only [dutiesC, amountC]; rw [if_pos hq, Finset.card_singleton, one_mul, zero_add])) $$ [Hc HO Hat]
  · isplitr; · iexact HI
    isplitl [Hc]; · iexact Hc
    isplitl [HO]; · iexact HO
    isplitr; · iapply (mayWait_tal π c (csem (.rcv t)) i.val l (2 + 2 * i.val) i.isLt (le_of_eq (lv_cell c (.rcv t) i.val)) hl); iexact Hlev
    iexact Hat
  iintro ⟨HO, Hat, Hr, Hpay⟩
  have hpay : bigSep ((Rd m π).duties (cell c (.rcv t)) q \ ∅) (fun d => (Rd m π).payload (cell c (.rcv t)) q d) = holds c (rcV t) (bc m (prv π c) i) := by
    rw [Rd_duties m π c (.rcv t), Finset.sdiff_empty]; simp only [dutiesC]; rw [if_pos hq, bigSep_singleton, Rd_payload m π c (.rcv t), ← hi]; rfl
  ihave Hp := (Entails.of_eq hpay) $$ Hpay
  iapply Hk $$ Hp Hat Hr
  iexists _; iexact HO

/-! ## Releases and credits -/

/-- Landing slot `t`, read for the first time, is released. -/
theorem release (c : Dev nD) (t : Fin 4) :
    records m π K KS ⊢ iprop(anyv c (rcV t) -∗ Release.readerAt ES (c, t) 0 -∗ reached ER (cell c (.rcv t)) 1 -∗ |={Set.univ}=> freed c t) := by
  iintro #Hrec Hs Hr #Hre
  ihave #HI := (rec_slot m π K KS c t) $$ Hrec
  imod (Release.slot_release ES (Set.mem_univ (KS (c, t))) (anyv_false c (rcV t)) 0) $$ [Hs Hr] with ⟨-, #H⟩
  · isplitr; · iexact HI
    isplitl [Hr] <;> iassumption
  imodintro
  unfold freed
  isplitl [] <;> iassumption

/-- The facts up to the `k`-th give each of them. -/
theorem freedTo_at (d : Dev nD) (t : Fin 4) : ∀ k : ℕ, t.val ≤ k → k < 4 → freedTo (F := F) d k ⊢ freed d t
  | 0, h, _ => by
    have : t = 0 := Fin.ext (Nat.le_zero.mp h)
    subst this; exact Entails.refl _
  | k + 1, h, hk => by
    unfold freedTo
    by_cases e : t.val = k + 1
    · have : t = ⟨(k + 1) % 4, Nat.mod_lt _ (by decide)⟩ := Fin.ext (by simp only; rw [Nat.mod_eq_of_lt hk]; exact e)
      rw [this]; exact sep_elim_left
    · exact sep_elim_right.trans (freedTo_at d t k (by omega) (by omega))

/-- The credit of `k`, paid to the sender. -/
theorem wp_credit (c n : Dev nD) (hn : n = prv π c) (k : Fin 4) (l : List Pay) {sm : Sem sig} (hsm : SemLoc.reg sm = csem .crd)
    {kk : PUnit → Prog (TpuEff nD τ sig (Elt F) Λ₀ .tc) α} :
    records m π K KS
      ⊢ iprop(Owes π c (.cred k :: l) -∗ dutyTok ER (cell (prv π c) .crd) 0 k -∗ freedTo c k.val
          -∗ (Owes π c l -∗ run c (kk ⟨⟩) Q)
          -∗ run c (.op (.semSignal (Dev.tc n : Thread nD τ) sm 1) kk) Q) := by
  subst hn
  cases hsm
  unfold Owes
  iintro #Hrec ⟨%W, HO⟩ Ht Hf Hk
  ihave ⟨#HI, #Hr⟩ := (rec_cell m π K KS (prv π c) .crd) $$ Hrec
  iapply (Rounds.wp_signal 𝒱₀ ER (Rd m π) (c : Thread nD τ) none (dst := (prv π c : Thread nD τ)) (κ := K (prv π c, .crd))
      (d := k) (by rw [Rd_duties m π (prv π c) .crd]; exact Finset.mem_univ _) (Rd_amount m π (prv π c) .crd 0 k) k.val (tal π c l) rfl)
    $$ [HO Ht Hf]
  · isplitr; · iexact HI
    isplitl [HO]; · iexact HO
    isplitl [Ht]; · iexact Ht
    isplitl [Hf]
    · rw [Rd_payload m π (prv π c) .crd]; unfold payC nxt; rw [show π (prv π c) = c from π.apply_symm_apply c]; iexact Hf
    iexact Hr
  iintro HO
  iapply Hk
  iexists _; iexact HO

/-- `j` credits have been taken, with the facts of at least as many payers. -/
def CrdAt (c : Dev nD) (j : ℕ) : sProp 𝕄 :=
  iprop(∃ T : Finset (Fin 4), ⌜j ≤ T.card⌝ ∗ atPos ER (cell c .crd) 0 T j ∗ bigSep T fun k => freedTo (nxt π c) k.val)

/-- The wait for a credit, with which the receiver's landing slot `t` is the device's again. -/
theorem wp_credited (c : Dev nD) (t : Fin 4) (j j' : ℕ) (hj : j = t.val) (hj' : j' = t.val + 1) (l : List Pay) {sm : Sem sig} (hsm : SemLoc.reg sm = csem .crd)
    (hl : (l.all fun p => decide (3 + 2 * t.val < lvC p.kind p.ix)) = true) {k : PUnit → Prog (TpuEff nD τ sig (Elt F) Λ₀ .tc) α} :
    records m π K KS
      ⊢ iprop(CrdAt π c j -∗ cred (tallyAt (cell c .crd) t.val 1) -∗ Release.writeTok ES (nxt π c, t) 1 -∗ Owes π c l
          -∗ (CrdAt π c j' -∗ Land π c t 1 -∗ Owes π c l -∗ run c (k ⟨⟩) Q)
          -∗ run c (.op (.semWait sm 1) k) Q) := by
  subst hj
  subst hj'
  cases hsm
  unfold Owes CrdAt
  iintro #Hrec ⟨%T, %hT, Hat, #HT⟩ Hc Hw ⟨%W, HO⟩ Hk
  ihave ⟨#HI, -⟩ := (rec_cell m π K KS c .crd) $$ Hrec
  ihave #Hlev := (rec_lev m π K KS) $$ Hrec
  iapply (Rounds.wp_wait 𝒱₀ ER (Rd m π) (c : Thread nD τ) none (κ := K (c, .crd)) (k' := 1)
      (wpE_semWait_eq 𝒱₀ (c : Thread nD τ) none Set.univ) (Set.mem_univ _) (cr := Finsupp.single t.val 1) {(csem .crd, t.val)}
      (O := tal π c l) (W := W) (R := 0) (m := t.val) (T := T) (by rw [Util.total_single])
      (image_single_subset _ _ _)) $$ [Hc HO Hat]
  · isplitr; · iexact HI
    isplitl [Hc]; · iexact Hc
    isplitl [HO]; · iexact HO
    isplitr; · iapply (mayWait_tal π c (csem .crd) t.val l (3 + 2 * t.val) (Nat.lt_of_lt_of_le t.isLt (by decide)) (le_of_eq (lv_cell c .crd t.val)) hl); iexact Hlev
    iexact Hat
  iintro %S ⟨%hS, HO, Hat, Hpay⟩
  obtain ⟨hTS, -, hcard⟩ := hS
  rw [Rd_expect m π c .crd, Rd_duties m π c .crd] at hcard
  have hS1 : t.val + 1 ≤ S.card := by
    have h1 : (Finset.univ \ S).card = 4 - S.card := by rw [Finset.card_sdiff_of_subset (Finset.subset_univ S)]; rfl
    have h2 : (dutiesC .crd 0).card * amountC .crd = 4 := rfl
    have h3 : dutiesC .crd 0 \ S = Finset.univ \ S := rfl
    have h4 : S.card ≤ 4 := Finset.card_le_univ S
    rw [h2, h3, h1] at hcard
    omega
  have hpay : bigSep (S \ T) (fun d => (Rd m π).payload (cell c .crd) 0 d) = bigSep (S \ T) fun k => freedTo (nxt π c) k.val :=
    bigSep_congr fun d _ => by rw [Rd_payload m π c .crd]; rfl
  ihave #Hp := (Entails.of_eq hpay) $$ Hpay
  have hall : iprop((bigSep T fun k => freedTo (F := F) (nxt π c) k.val) ∗ bigSep (S \ T) fun k => freedTo (nxt π c) k.val)
      ⊢ bigSep S fun k => freedTo (nxt π c) k.val :=
    Entails.of_eq (by
      have h := bigSep_union (Φ := fun k : Fin 4 => freedTo (F := F) (nxt π c) k.val) (Finset.disjoint_sdiff (s := T) (t := S))
      rw [Finset.union_sdiff_of_subset hTS] at h
      exact h.symm)
  ihave #HS := hall $$ [HT Hp]
  · isplitl [HT] <;> iassumption
  obtain ⟨k₀, hk₀, htk⟩ : ∃ k₀ ∈ S, t.val ≤ k₀.val := by
    by_contra hno
    push Not at hno
    have hsub : S.image Fin.val ⊆ Finset.range t.val := fun x hx => by
      obtain ⟨k, hk, rfl⟩ := Finset.mem_image.mp hx
      exact Finset.mem_range.mpr (hno k hk)
    have := Finset.card_le_card hsub
    rw [Finset.card_image_of_injective _ Fin.val_injective, Finset.card_range] at this
    omega
  have hfr : (bigSep S fun k : Fin 4 => freedTo (F := F) (nxt π c) k.val) ⊢ freed (nxt π c) t :=
    (bigSep_elim hk₀).trans (freedTo_at (nxt π c) t k₀.val htk k₀.isLt)
  ihave Hfr := hfr $$ HS
  unfold freed
  icases Hfr with ⟨Hrel, Hre⟩
  ihave #HIs := (rec_slot m π K KS (nxt π c) t) $$ Hrec
  imod (Release.slot_take ES (Set.mem_univ (KS (nxt π c, t))) 1) $$ [Hrel Hw] with Hslot
  · isplitr; · iexact HIs
    isplitl [Hrel] <;> iassumption
  iapply Hk $$ [Hat] [Hslot Hre]
  · iexists S
    isplitr; · ipureintro; exact hS1
    isplitl [Hat]; · iexact Hat
    iexact HS
  · unfold Land
    isplitl [Hslot] <;> iassumption
  iexists _; iexact HO

/-! ## The barrier -/

/-- The unit to the receiver's barrier. -/
theorem wp_barN (c n : Dev nD) (hn : n = nxt π c) (l : List Pay) {sm : Sem sig} (hsm : SemLoc.reg sm = csem .bar)
    {kk : PUnit → Prog (TpuEff nD τ sig (Elt F) Λ₀ .tc) α} :
    records m π K KS
      ⊢ iprop(Owes π c (.barN :: l) -∗ dutyTok ER (cell (nxt π c) .bar) 0 0
          -∗ (Owes π c l -∗ run c (kk ⟨⟩) Q)
          -∗ run c (.op (.semSignal (Dev.tc n : Thread nD τ) sm 1) kk) Q) := by
  subst hn
  cases hsm
  unfold Owes
  iintro #Hrec ⟨%W, HO⟩ Ht Hk
  ihave ⟨#HI, #Hr⟩ := (rec_cell m π K KS (nxt π c) .bar) $$ Hrec
  iapply (Rounds.wp_signal 𝒱₀ ER (Rd m π) (c : Thread nD τ) none (dst := (nxt π c : Thread nD τ)) (κ := K (nxt π c, .bar))
      (d := 0) (by rw [Rd_duties m π (nxt π c) .bar]; decide) (Rd_amount m π (nxt π c) .bar 0 0) 0 (tal π c l) rfl)
    $$ [HO Ht]
  · isplitr; · iexact HI
    isplitl [HO]; · iexact HO
    isplitl [Ht]; · iexact Ht
    isplitr; · rw [Rd_payload m π (nxt π c) .bar]; iapply (show iprop(emp) ⊢ payC m π (nxt π c) .bar 0 0 from Entails.refl _); iempintro
    iexact Hr
  iintro HO
  iapply Hk
  iexists _; iexact HO

/-- The unit to the sender's barrier, with the landing slots. -/
theorem wp_barP (c n : Dev nD) (hn : n = prv π c) (l : List Pay) {sm : Sem sig} (hsm : SemLoc.reg sm = csem .bar)
    {kk : PUnit → Prog (TpuEff nD τ sig (Elt F) Λ₀ .tc) α} :
    records m π K KS
      ⊢ iprop(Owes π c (.barP :: l) -∗ dutyTok ER (cell (prv π c) .bar) 0 1 -∗ landing c
          -∗ (Owes π c l -∗ run c (kk ⟨⟩) Q)
          -∗ run c (.op (.semSignal (Dev.tc n : Thread nD τ) sm 1) kk) Q) := by
  subst hn
  cases hsm
  unfold Owes
  iintro #Hrec ⟨%W, HO⟩ Ht Hf Hk
  ihave ⟨#HI, #Hr⟩ := (rec_cell m π K KS (prv π c) .bar) $$ Hrec
  iapply (Rounds.wp_signal 𝒱₀ ER (Rd m π) (c : Thread nD τ) none (dst := (prv π c : Thread nD τ)) (κ := K (prv π c, .bar))
      (d := 1) (by rw [Rd_duties m π (prv π c) .bar]; decide) (Rd_amount m π (prv π c) .bar 0 1) 0 (tal π c l) rfl)
    $$ [HO Ht Hf]
  · isplitr; · iexact HI
    isplitl [HO]; · iexact HO
    isplitl [Ht]; · iexact Ht
    isplitl [Hf]
    · rw [Rd_payload m π (prv π c) .bar]
      iapply (show landing c ⊢ payC m π (prv π c) .bar 0 1 from Entails.of_eq (by
        show landing c = landing (π (π.symm c)); rw [π.apply_symm_apply])); iexact Hf
    iexact Hr
  iintro HO
  iapply Hk
  iexists _; iexact HO

/-- The wait on the barrier: the receiver's landing slots. -/
theorem wp_barred (c : Dev nD) (l : List Pay) {sm : Sem sig} (hsm : SemLoc.reg sm = csem .bar)
    (hl : (l.all fun p => decide (1 < lvC p.kind p.ix)) = true) {k : PUnit → Prog (TpuEff nD τ sig (Elt F) Λ₀ .tc) α} :
    records m π K KS
      ⊢ iprop(atPos ER (cell c .bar) 0 ∅ 0 -∗ cred (tallyAt (cell c .bar) 0 2) -∗ Owes π c l
          -∗ (atPos ER (cell c .bar) 1 ∅ 0 -∗ landing (nxt π c) -∗ Owes π c l -∗ run c (k ⟨⟩) Q)
          -∗ run c (.op (.semWait sm 2) k) Q) := by
  cases hsm
  unfold Owes
  iintro #Hrec Hat Hc ⟨%W, HO⟩ Hk
  ihave ⟨#HI, -⟩ := (rec_cell m π K KS c .bar) $$ Hrec
  ihave #Hlev := (rec_lev m π K KS) $$ Hrec
  iapply (Rounds.wp_wait_rest_token 𝒱₀ ER (Rd m π) (c : Thread nD τ) none (κ := K (c, .bar)) (k' := 2)
      (wpE_semWait_eq 𝒱₀ (c : Thread nD τ) none Set.univ) (Set.mem_univ _) 0 (O := tal π c l) (W := W) (R := 0) (m := 0) (T := ∅)
      (by rw [Rd_expect m π c .bar]; rfl)) $$ [Hc HO Hat]
  · isplitr; · iexact HI
    isplitl [Hc]; · iexact Hc
    isplitl [HO]; · iexact HO
    isplitr; · iapply (mayWait_tal π c (csem .bar) 0 l 1 (by decide) (le_of_eq (lv_cell c .bar 0)) hl); iexact Hlev
    iexact Hat
  iintro ⟨HO, Hat, -, Hpay⟩
  have hpay : bigSep ((Rd m π).duties (cell c .bar) 0 \ ∅) (fun d => (Rd m π).payload (cell c .bar) 0 d) = iprop(emp ∗ landing (nxt π c)) := by
    rw [Rd_duties m π c .bar, Finset.sdiff_empty, bigSep_congr fun d _ => Rd_payload m π c .bar 0 d,
      bigSep_eq_bigSepL_of_eq [0, 1] (by decide) (by decide)]
    rfl
  ihave Hp := (Entails.of_eq hpay) $$ Hpay
  icases Hp with ⟨-, Hp⟩
  iapply Hk $$ Hat Hp
  iexists _; iexact HO

end Cert.KernelIdeal.Rot

end
-- ==== Proof.KernelIdeal.Words.lean ====
/-
# The permutation of the mesh

The ring of devices a permutation of the axis `y` makes, and that the device numbers the body computes from the
permutation's words are the ring's.
-/
module

public import proofs.«01_k».proof.Proof.KernelIdeal.Steps
public import Mathlib.Data.Fintype.Perm

@[expose] public section

set_option maxRecDepth 8000

noncomputable section

namespace Cert.KernelIdeal.Rot

open Cert.KernelIdeal Cert.KernelIdeal.Gen

open Idealize.ShloMosaic
open Idealize.ShloMosaic.TcCoe

variable {F : FTy → Type} [FloatOps F]

/-- A device's place in the axis `y`. -/
abbrev yOf (c : Dev nD) : Fin 4 := ⟨c.val / 4 % 4, Nat.mod_lt _ (by decide)⟩

/-- The device at place `y` of `c`'s line along the axis. -/
def atY (c : Dev nD) (y : Fin 4) : Dev nD :=
  ⟨c.val / 16 * 16 + y.val * 4 + c.val % 4, by have := c.isLt; have := y.isLt; simp only [nD] at *; omega⟩

theorem yOf_atY (c : Dev nD) (y : Fin 4) : yOf (atY c y) = y :=
  Fin.ext (by have := y.isLt; show (c.val / 16 * 16 + y.val * 4 + c.val % 4) / 4 % 4 = y.val; omega)
theorem atY_atY (c : Dev nD) (y z : Fin 4) : atY (atY c y) z = atY c z :=
  Fin.ext (by
    have := y.isLt; have := z.isLt
    show (c.val / 16 * 16 + y.val * 4 + c.val % 4) / 16 * 16 + z.val * 4 + (c.val / 16 * 16 + y.val * 4 + c.val % 4) % 4
      = c.val / 16 * 16 + z.val * 4 + c.val % 4
    omega)
theorem atY_yOf (c : Dev nD) : atY c (yOf c) = c :=
  Fin.ext (by show c.val / 16 * 16 + c.val / 4 % 4 * 4 + c.val % 4 = c.val; omega)

/-- The ring of a permutation of the axis: each device sends to the one at the place the permutation names. -/
def ring (σ : Equiv.Perm (Fin 4)) : Equiv.Perm (Dev nD) where
  toFun c := atY c (σ (yOf c))
  invFun c := atY c (σ.symm (yOf c))
  left_inv c := by show atY (atY c _) (σ.symm (yOf (atY c _))) = c; rw [yOf_atY, atY_atY, σ.symm_apply_apply, atY_yOf]
  right_inv c := by show atY (atY c _) (σ (yOf (atY c _))) = c; rw [yOf_atY, atY_atY, σ.apply_symm_apply, atY_yOf]

/-- The word of a place. -/
abbrev wd (y : Fin 4) : BitVec 32 := BitVec.ofNat 32 y.val

theorem dev1_wd : ∀ (c : Dev nD) (y : Fin 4), k0_dev1 c (wd y) = (atY c y).val := by decide +kernel
theorem dev2_wd : ∀ (σ : Equiv.Perm (Fin 4)) (c : Dev nD),
    k0_dev2 c (wd (σ 0)) (wd (σ 1)) (wd (σ 2)) (wd (σ 3)) = (atY c (σ.symm (yOf c))).val := by decide +kernel
theorem chk1_wd : ∀ (c : Dev nD) (y : Fin 4), k0_chk1 c (wd y) := by decide +kernel

/-- The word a load of the permutation at place `j` returns. -/
theorem pi_word (σ : Equiv.Perm (Fin 4)) {f : (cc0_stg0_0 : Ref sig .tc).ty.Contents (Elt F)}
    (hf : ∀ i : S4.Idx, (f i : BitVec 32) = wd (σ (i 0))) {off : Fin 1 → ℕ} {inb : ∀ a, off a + S1.size a ≤ S4.size a} (j : Fin 4)
    (hj : off 0 = j.val) (x : (Rect.unit (s := S4) off S1.size inb).shape.Idx) :
    ((Memref.whole cc0_stg0_0 : Memref sig .tc .smem S4 .i32).access (Rect.unit (s := S4) off S1.size inb)).read (Elt F) f x = (wd (σ j) : BitVec 32) := by
  show (f ((Rect.unit (s := S4) off S1.size inb).emb x) : BitVec 32) = _
  rw [hf]
  have h : ((Rect.unit (s := S4) off S1.size inb).emb x 0 : Fin 4) = j := by
    have hx : (x 0).val < 1 := (x 0).isLt
    refine Fin.ext ?_
    show off 0 + 1 * (x 0).val = j.val
    omega
  rw [show ((Rect.unit (s := S4) off S1.size inb).emb x 0) = j from h]

end Cert.KernelIdeal.Rot

end
-- ==== Proof.KernelIdeal.Moves.lean ====
/-
# The moves of a chunk

The steps of the body named by what they do to a chunk: fetched from the argument, read from its stage, put into a send
slot, read from a landing slot, put into a write-back slot, written back. And what a device starts and ends the body with.
-/
module

public import proofs.«01_k».proof.Proof.KernelIdeal.Words
public import Idealize.ShloMosaic.Lib.Pipeline.Value

@[expose] public section

set_option maxRecDepth 8000

noncomputable section

namespace Cert.KernelIdeal.Rot

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable {α : Type} {Q : α → sProp (MT nD τ sig ℕ (Elt F) ℕ UU ℕ)}
variable (m : (ℓ : Loc nD τ sig) → Buf (Elt F) ℓ) (π : Equiv.Perm (Dev nD))

/-- Device `c`'s shard at its first contents. -/
abbrev xin (c : Dev nD) : Buf (Elt F) ((c : Thread nD τ).loc main_arg0) := m ((c : Thread nD τ).loc main_arg0)

theorem pos_st (s : Fin 2) : 0 < (stV s).view.dmaCredit := View.dmaCredit_pos _ (by decide)
theorem pos_o (i : Fin 8) : 0 < (oV i).view.dmaCredit := View.dmaCredit_pos _ (by decide)
theorem csem_inS (s : Fin 2) : ∀ k, csem k ≠ .dma (inS s) := by revert s; decide
theorem csem_ouS (s : Fin 2) : ∀ k, csem k ≠ .dma (ouS s) := by revert s; decide

/-- Own semaphore at zero. -/
abbrev idle (c : Dev nD) (sm : DmaSem sig) : sProp 𝕄 := semVal (((c : Thread nD τ), SemLoc.dma sm) : GSem nD τ sig) 0

section Moves

variable (c : Dev nD) (i : Fin 8) (s : Fin 2) (t : Fin 4)

/-- A fetch of chunk `i` into stage `s` in flight; a write-back of chunk `i` from slot `s` in flight. -/
abbrev Fetching : sProp 𝕄 := Fly c (xV i) (stV s) (inS s) (xin m c) (xc m c i)
def Backing : sProp 𝕄 := iprop(∃ f, Fly c (wbV s) (oV i) (ouS s) f (zc m (prv π c) i))

theorem wp_fetch {hsrc : (xV i).view.WordExact} {hdst : (stV s).view.WordExact}
    {hsem : DmaTarget.Typed (nD := nD) (τ := τ) (p := (.tc : Proc τ)) .hbm (.dma (inS s)) (.here (stV s))}
    {k : PUnit → Prog (TpuEff nD τ sig (Elt F) Λ₀ .tc) α} :
    pts c (xV i) (xin m c)
      ⊢ iprop(anyv c (stV s) -∗ idle c (inS s) -∗ (Fetching m c i s -∗ run c (k ⟨⟩) Q)
          -∗ run c (.op (.enqueueDma (xV i) (.here (stV s)) (.dma (inS s)) hsrc hdst hsem) k) Q) := by
  iintro Hx Hs Hv Hk
  iapply (wp_copy (src := xV i) (dst := stV s) (sm := inS s) c (xin m c) (xc m c i) (Eq.refl _) (pos_st s)) $$ Hx Hs Hv
  iexact Hk

theorem wp_fetched (l : List Pay) {hsrc : (xV i).view.WordExact} {hdst : (stV s).view.WordExact}
    (hl : (l.all fun p => decide (0 < lvC p.kind p.ix)) = true) {k : PUnit → Prog (TpuEff nD τ sig (Elt F) Λ₀ .tc) α} :
    Fetching m c i s
      ⊢ iprop(Owes π c l -∗ levs
          -∗ (holds c (stV s) (xc m c i) -∗ pts c (xV i) (xin m c) -∗ idle c (inS s) -∗ Owes π c l -∗ run c (k ⟨⟩) Q)
          -∗ run c (.op (.waitDma2 (inS s) (xV i) (stV s) hsrc hdst) k) Q) :=
  wp_copied c π l (csem_inS s) hl

theorem wp_back {hsrc : (wbV s).view.WordExact} {hdst : (oV i).view.WordExact}
    {hsem : DmaTarget.Typed (nD := nD) (τ := τ) (p := (.tc : Proc τ)) .vmem (.dma (ouS s)) (.here (oV i))}
    {k : PUnit → Prog (TpuEff nD τ sig (Elt F) Λ₀ .tc) α} :
    holds c (wbV s) (zc m (prv π c) i)
      ⊢ iprop(anyv c (oV i) -∗ idle c (ouS s) -∗ (Backing m π c i s -∗ run c (k ⟨⟩) Q)
          -∗ run c (.op (.enqueueDma (wbV s) (.here (oV i)) (.dma (ouS s)) hsrc hdst hsem) k) Q) := by
  unfold Backing holds
  iintro ⟨%f, %hf, H⟩ Ho Hv Hk
  iapply (wp_copy c f (zc m (prv π c) i) hf (pos_o i)) $$ H Ho Hv
  iintro Hf
  iapply Hk
  iexists f; iexact Hf

theorem wp_backed (l : List Pay) {hsrc : (wbV s).view.WordExact} {hdst : (oV i).view.WordExact}
    (hl : (l.all fun p => decide (0 < lvC p.kind p.ix)) = true) {k : PUnit → Prog (TpuEff nD τ sig (Elt F) Λ₀ .tc) α} :
    Backing m π c i s
      ⊢ iprop(Owes π c l -∗ levs
          -∗ (holds c (oV i) (zc m (prv π c) i) -∗ anyv c (wbV s) -∗ idle c (ouS s) -∗ Owes π c l -∗ run c (k ⟨⟩) Q)
          -∗ run c (.op (.waitDma2 (ouS s) (wbV s) (oV i) hsrc hdst) k) Q) := by
  unfold Backing
  iintro ⟨%f, Hf⟩ HO #Hlev Hk
  iapply (wp_copied c π l (csem_ouS s) hl) $$ Hf HO Hlev
  iintro Ho Hw Hv HO
  iapply Hk $$ Ho [Hw] Hv HO
  unfold anyv Release.slot
  iexists f; iexact Hw

/-- The stage is read, after which its contents no longer matter; -/
theorem wp_ldS {hl : (Memref.whole cc0_scratch0 : Memref sig .tc .vmem S2x512x2048 .f32).view.LoadsAt (r2 s).toLoadRect}
    {k : (S1x512x2048.Idx → Elt F .f32) → Prog (TpuEff nD τ sig (Elt F) Λ₀ .tc) α} :
    holds c (stV s) (xc m c i)
      ⊢ iprop((anyv c (stV s) -∗ run c (k (shapeCast S1x512x2048 (xc m c i) shapeCasts_S512x2048_S1x512x2048)) Q)
          -∗ run c (.op (.load (Memref.whole cc0_scratch0) (r2 s).toLoadRect hl) k) Q) := by
  iintro H Hk
  iapply (wp_ld (r := r2 s) c (fun _ => rfl) squeezes_S1x512x2048_S512x2048 shapeCasts_S512x2048_S1x512x2048) $$ H
  iintro H
  iapply Hk
  iapply (holds_any c (stV s) (xc m c i)); iexact H
/-- a send slot is read, for nothing; -/
theorem wp_ldD {hl : (Memref.whole cc0_scratch1 : Memref sig .tc .vmem S2x512x2048 .bf16).view.LoadsAt (r2 s).toLoadRect}
    {k : (S1x512x2048.Idx → Elt F .bf16) → Prog (TpuEff nD τ sig (Elt F) Λ₀ .tc) α} :
    anyv c (sdV s)
      ⊢ iprop((∀ w, anyv c (sdV s) -∗ run c (k w) Q)
          -∗ run c (.op (.load (Memref.whole cc0_scratch1) (r2 s).toLoadRect hl) k) Q) :=
  wp_ld_any (r := r2 s) c (fun _ => rfl) squeezes_S1x512x2048_S512x2048
/-- the narrowed chunk is stored into it; -/
theorem wp_stD {w : S1x512x2048.Idx → Elt F .bf16} {hx : ((Memref.whole cc0_scratch1 : Memref sig .tc .vmem S2x512x2048 .bf16).access (r2 s)).Stores Finset.univ}
    {hm : (Finset.univ : Finset (r2 s).shape.Idx) = Finset.univ ∨ ∀ a, (r2 s).stride a = 1}
    {k : PUnit → Prog (TpuEff nD τ sig (Elt F) Λ₀ .tc) α}
    (hw : w = shapeCast S1x512x2048 (truncf .bf16 (shapeCast S512x2048 (shapeCast S1x512x2048 (xc m c i) shapeCasts_S512x2048_S1x512x2048 : FVec F S1x512x2048 .f32)
      shapeCasts_S1x512x2048_S512x2048 : FVec F S512x2048 .f32) bitsLt_bf16_f32 : FVec F S512x2048 .bf16) shapeCasts_S512x2048_S1x512x2048) :
    anyv c (sdV s)
      ⊢ iprop((holds c (sdV s) (bc m c i) -∗ run c (k ⟨⟩) Q)
          -∗ run c (.op (.store (Memref.whole cc0_scratch1) (r2 s) w Finset.univ hx hm) k) Q) :=
  wp_st (r := r2 s) c (fun _ => rfl) squeezes_S1x512x2048_S512x2048 (bc m c i) shapeCasts_S512x2048_S1x512x2048
    (by rw [hw, shapeCast_shapeCast]; rfl)
/-- a landing slot is read; -/
theorem wp_ldR {hl : (Memref.whole cc0_scratch2 : Memref sig .tc .vmem S4x512x2048 .bf16).view.LoadsAt (r4 t).toLoadRect}
    {k : (S1x512x2048.Idx → Elt F .bf16) → Prog (TpuEff nD τ sig (Elt F) Λ₀ .tc) α} :
    holds c (rcV t) (bc m (prv π c) i)
      ⊢ iprop((anyv c (rcV t) -∗ run c (k (shapeCast S1x512x2048 (bc m (prv π c) i) shapeCasts_S512x2048_S1x512x2048)) Q)
          -∗ run c (.op (.load (Memref.whole cc0_scratch2) (r4 t).toLoadRect hl) k) Q) := by
  iintro H Hk
  iapply (wp_ld (r := r4 t) c (fun _ => rfl) squeezes_S1x512x2048_S512x2048 shapeCasts_S512x2048_S1x512x2048) $$ H
  iintro H
  iapply Hk
  iapply (holds_any c (rcV t) (bc m (prv π c) i)); iexact H
/-- a write-back slot is read, for nothing; -/
theorem wp_ldW {hl : (Memref.whole cc0_scratch3 : Memref sig .tc .vmem S2x512x2048 .f32).view.LoadsAt (r2 s).toLoadRect}
    {k : (S1x512x2048.Idx → Elt F .f32) → Prog (TpuEff nD τ sig (Elt F) Λ₀ .tc) α} :
    anyv c (wbV s)
      ⊢ iprop((∀ w, anyv c (wbV s) -∗ run c (k w) Q)
          -∗ run c (.op (.load (Memref.whole cc0_scratch3) (r2 s).toLoadRect hl) k) Q) :=
  wp_ld_any (r := r2 s) c (fun _ => rfl) squeezes_S1x512x2048_S512x2048
/-- and the widened chunk is stored into it. -/
theorem wp_stW {w : S1x512x2048.Idx → Elt F .f32} {hx : ((Memref.whole cc0_scratch3 : Memref sig .tc .vmem S2x512x2048 .f32).access (r2 s)).Stores Finset.univ}
    {hm : (Finset.univ : Finset (r2 s).shape.Idx) = Finset.univ ∨ ∀ a, (r2 s).stride a = 1}
    {k : PUnit → Prog (TpuEff nD τ sig (Elt F) Λ₀ .tc) α}
    (hw : w = shapeCast S1x512x2048 (extf .f32 (shapeCast S512x2048 (shapeCast S1x512x2048 (bc m (prv π c) i) shapeCasts_S512x2048_S1x512x2048 : FVec F S1x512x2048 .bf16)
      shapeCasts_S1x512x2048_S512x2048 : FVec F S512x2048 .bf16) bitsLt_bf16_f32 : FVec F S512x2048 .f32) shapeCasts_S512x2048_S1x512x2048) :
    anyv c (wbV s)
      ⊢ iprop((holds c (wbV s) (zc m (prv π c) i) -∗ run c (k ⟨⟩) Q)
          -∗ run c (.op (.store (Memref.whole cc0_scratch3) (r2 s) w Finset.univ hx hm) k) Q) :=
  wp_st (r := r2 s) c (fun _ => rfl) squeezes_S1x512x2048_S512x2048 (zc m (prv π c) i) shapeCasts_S512x2048_S1x512x2048
    (by rw [hw, shapeCast_shapeCast]; rfl)

end Moves

/-- The permutation's buffer of device `c`, at `f`. -/
abbrev piAt (c : Dev nD) (f : (cc0_stg0_0 : Ref sig .tc).ty.Contents (Elt F)) : sProp 𝕄 :=
  ((Memref.whole cc0_stg0_0 : Memref sig .tc .smem S4 .i32).view.loc (c : Thread nD τ) ↦[Finset.univ]{fullShare} f)

/-- A word of the permutation is read. -/
theorem wp_word (σ : Equiv.Perm (Fin 4)) (c : Dev nD) {f : (cc0_stg0_0 : Ref sig .tc).ty.Contents (Elt F)}
    (hf : ∀ i : S4.Idx, (f i : BitVec 32) = wd (σ (i 0))) {off : Fin 1 → ℕ} {inb : ∀ a, off a + S1.size a ≤ S4.size a} (j : Fin 4)
    (hj : off 0 = j.val)
    {hw : ((Memref.whole cc0_stg0_0 : Memref sig .tc .smem S4 .i32).access (Rect.unit (s := S4) off S1.size inb)).Loads}
    {x : (Rect.unit (s := S4) off S1.size inb).shape.Idx}
    {k : Elt F .i32 → Prog (TpuEff nD τ sig (Elt F) Λ₀ .tc) α} :
    piAt c f
      ⊢ iprop((piAt c f -∗ run c (k (wd (σ j) : BitVec 32)) Q)
          -∗ run c (smemLoadElt (Memref.whole cc0_stg0_0 : Memref sig .tc .smem S4 .i32) (Rect.unit (s := S4) off S1.size inb) hw x k) Q) := by
  iintro H Hk
  iapply (wp_smemLoadElt_named 𝒱₀ (c : Thread nD τ) none Set.univ (m := (Memref.whole cc0_stg0_0 : Memref sig .tc .smem S4 .i32))
    (S := Finset.univ) (f := f)) $$ H
  iintro H %w %hw
  rw [pi_word σ hf (inb := inb) j hj x] at hw
  subst hw
  iapply Hk; iexact H

/-! ## The first and the last resources of the body -/

/-- What a device has for chunk `i`: the argument's and the result's rows, the duties of its transfer, which leaves from
    send slot `s` in round `p`, and the credit for the wait for the one that lands in slot `t` in round `q`. -/
def Chunk (c : Dev nD) (i : Fin 8) (s : Fin 2) (p : ℕ) (t : Fin 4) (q : ℕ) : sProp 𝕄 :=
  iprop(pts c (xV i) (xin m c) ∗ anyv c (oV i) ∗ sendTok π c s p t q ∗ cred (tallyAt (cell c (.rcv t)) i.val N))
/-- What it has for the reuse of slot `t`: the credit it waits for and the right to write then, the credit it pays and the
    right to release. -/
def Reuse (c : Dev nD) (t : Fin 4) : sProp 𝕄 :=
  iprop(cred (tallyAt (cell c .crd) t.val 1) ∗ Release.writeTok ES (nxt π c, t) 1
    ∗ dutyTok ER (cell (prv π c) .crd) 0 t ∗ Release.readerAt ES (c, t) 0)
/-- What it has for the barrier. -/
def Barrier (c : Dev nD) : sProp 𝕄 :=
  iprop(dutyTok ER (cell (nxt π c) .bar) 0 0 ∗ dutyTok ER (cell (prv π c) .bar) 0 1 ∗ atPos ER (cell c .bar) 0 ∅ 0
    ∗ cred (tallyAt (cell c .bar) 0 2))
/-- Its buffers and its own semaphores; -/
def Bufs (c : Dev nD) : sProp 𝕄 :=
  iprop((anyv c (stV 0) ∗ anyv c (stV 1)) ∗ (anyv c (sdV 0) ∗ anyv c (sdV 1)) ∗ landing c ∗ (anyv c (wbV 0) ∗ anyv c (wbV 1)))
def Idles (c : Dev nD) : sProp 𝕄 := iprop((idle c (inS 0) ∗ idle c (inS 1)) ∗ (idle c (ouS 0) ∗ idle c (ouS 1)))
/-- where its cells stand. -/
def Cells (c : Dev nD) : sProp 𝕄 :=
  iprop(CrdAt π c 0 ∗ (SndAt c 0 0 ∗ SndAt c 1 0) ∗ (RcvAt c 0 0 ∗ RcvAt c 1 0 ∗ RcvAt c 2 0 ∗ RcvAt c 3 0))

/-- A device's resources at the start of the body, -/
def Start (c : Dev nD) : sProp 𝕄 :=
  iprop(Owes π c allPays
    ∗ (Chunk m π c 0 0 0 0 0 ∗ Chunk m π c 1 1 0 1 0 ∗ Chunk m π c 2 0 1 2 0 ∗ Chunk m π c 3 1 1 3 0
      ∗ Chunk m π c 4 0 2 0 1 ∗ Chunk m π c 5 1 2 1 1 ∗ Chunk m π c 6 0 3 2 1 ∗ Chunk m π c 7 1 3 3 1)
    ∗ (Reuse π c 0 ∗ Reuse π c 1 ∗ Reuse π c 2 ∗ Reuse π c 3)
    ∗ Barrier π c ∗ Bufs c ∗ Idles c ∗ Cells π c)

/-- Chunk `i` done: the argument as it was, the result the widened chunk of the sender. -/
def Done (c : Dev nD) (i : Fin 8) : sProp 𝕄 := iprop(pts c (xV i) (xin m c) ∗ holds c (oV i) (zc m (prv π c) i))
/-- All cells of a device at zero. -/
def Zeros (c : Dev nD) : sProp 𝕄 :=
  iprop(semVal (cell c .bar) 0 ∗ semVal (cell c .crd) 0 ∗ (semVal (cell c (.snd 0)) 0 ∗ semVal (cell c (.snd 1)) 0)
    ∗ (semVal (cell c (.rcv 0)) 0 ∗ semVal (cell c (.rcv 1)) 0 ∗ semVal (cell c (.rcv 2)) 0 ∗ semVal (cell c (.rcv 3)) 0))
/-- and at the end. -/
def Finish (c : Dev nD) : sProp 𝕄 :=
  iprop(Owes π c []
    ∗ (Done m π c 0 ∗ Done m π c 1 ∗ Done m π c 2 ∗ Done m π c 3 ∗ Done m π c 4 ∗ Done m π c 5 ∗ Done m π c 6 ∗ Done m π c 7)
    ∗ Bufs c ∗ Idles c ∗ Zeros c)

variable (K : Dev nD × Cl → ℕ) (KS : Dev nD × Fin 4 → ℕ)

/-- A landing slot of the receiver, before anything has landed in it. -/
theorem land (c : Dev nD) (t : Fin 4) : records m π K KS ⊢ iprop(anyv (nxt π c) (rcV t) -∗ Land π c t 0) := by
  iintro #Hrec H
  ihave ⟨-, #Hr⟩ := (rec_cell m π K KS (nxt π c) (.rcv t)) $$ Hrec
  unfold Land
  isplitl [H]; · iexact H
  iexact Hr

/-- The first slot released. -/
theorem freedTo_zero (d : Dev nD) : freed (F := F) d 0 ⊢ freedTo d (0 : Fin 4).val := Entails.refl _
/-- One more slot released. -/
theorem freedTo_next (d : Dev nD) (k t : Fin 4) (h : k.val + 1 = t.val) : freed (F := F) d t ⊢ iprop(freedTo d k.val -∗ freedTo d t.val) := by
  have ht : t = ⟨(k.val + 1) % 4, Nat.mod_lt _ (by decide)⟩ := Fin.ext (by show t.val = (k.val + 1) % 4; have := t.isLt; omega)
  rw [← h]
  conv in freed d t => rw [ht]
  show freed d ⟨(k.val + 1) % 4, Nat.mod_lt _ (by decide)⟩
    ⊢ iprop(freedTo d k.val -∗ (freed d ⟨(k.val + 1) % 4, Nat.mod_lt _ (by decide)⟩ ∗ freedTo d k.val))
  iintro H1 H2
  isplitl [H1]; · iexact H1
  iexact H2

/-- A cell past its last round is at zero. -/
theorem close (c : Dev nD) (k : Cl) (r : ℕ) (hr : r = roundsC k) :
    records m π K KS ⊢ iprop(atPos ER (cell c k) r ∅ 0 -∗ |={Set.univ}=> semVal (cell c k) 0) := by
  subst hr
  iintro #Hrec Hat
  ihave ⟨#HI, -⟩ := (rec_cell m π K KS c k) $$ Hrec
  iapply (Rounds.cell_close ER (Rd m π) (Set.mem_univ (K (c, k))) (fun h => h) (Rd_later m π c k))
  isplitr; · iexact HI
  iexact Hat

/-- So is the credit cell, all its credits taken. -/
theorem close_crd (c : Dev nD) :
    records m π K KS ⊢ iprop(CrdAt π c 4 -∗ |={Set.univ}=> semVal (cell c .crd) 0) := by
  unfold CrdAt
  iintro #Hrec ⟨%T, %hT, Hat, -⟩
  have hTu : T = Finset.univ := Finset.eq_univ_of_card T (le_antisymm (Finset.card_le_univ T) hT)
  subst hTu
  ihave ⟨#HI, -⟩ := (rec_cell m π K KS c .crd) $$ Hrec
  imod (Rounds.fupd_skip ER (Rd m π) (κ := K (c, .crd)) (g := cell c .crd) (R := 0) (m := 4) (T := Finset.univ) (Finset.subset_univ _)
    (by rw [Rd_expect m π c .crd]; rfl) (Set.mem_univ _)) $$ [Hat] with ⟨Hat, -⟩
  · isplitr; · iexact HI
    iexact Hat
  iapply (Rounds.cell_close ER (Rd m π) (Set.mem_univ (K (c, .crd))) (fun h => h) (Rd_later m π c .crd))
  isplitr; · iexact HI
  iexact Hat

end Cert.KernelIdeal.Rot

end
-- ==== Proof.KernelIdeal.Fund.lean ====
/-
# The launch: the ghost state and the credits dealt to the devices

One element funds every device's cells, the tokens of the payments to them and the records of the landing slots. Each
token is dealt to the device that makes the payment, and each device's launch credit is split into the credits of its
waits.
-/
module

public import proofs.«01_k».proof.Proof.KernelIdeal.Moves

@[expose] public section

noncomputable section

namespace Cert.KernelIdeal.Rot

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (π : Equiv.Perm (Dev nD))

/-! ## Cells and tokens -/

/-- The kinds listed. -/
def kinds : List Cl := [.bar, .crd, .rcv 0, .rcv 1, .rcv 2, .rcv 3, .snd 0, .snd 1]
theorem bigSep_kinds (Φ : Cl → sProp 𝕄) : bigSep Finset.univ Φ = bigSepL kinds Φ :=
  bigSep_univ_eq_bigSepL kinds (by decide) (by decide) Φ

/-- The payments to a device's cells: the kind of cell, the round and which of the round's payments. -/
abbrev Tk : Type := Cl × Fin 4 × Fin 4
def tks : List Tk :=
  [(.bar, 0, 0), (.bar, 0, 1), (.crd, 0, 0), (.crd, 0, 1), (.crd, 0, 2), (.crd, 0, 3),
   (.rcv 0, 0, 0), (.rcv 1, 0, 0), (.rcv 2, 0, 0), (.rcv 3, 0, 0), (.rcv 0, 1, 0), (.rcv 1, 1, 0), (.rcv 2, 1, 0), (.rcv 3, 1, 0),
   (.snd 0, 0, 0), (.snd 1, 0, 0), (.snd 0, 1, 0), (.snd 1, 1, 0), (.snd 0, 2, 0), (.snd 1, 2, 0), (.snd 0, 3, 0), (.snd 1, 3, 0)]

/-- The `i`-th of them. -/
def tk (i : Fin 22) : Tk := tks[i]
theorem tk_injective : Function.Injective tk := by
  intro a b; revert a b; decide

/-- The device a payment of device `c` goes to. -/
def payee : Tk → Equiv.Perm (Dev nD)
  | (.bar, _, k) => if k = 0 then π else π.symm
  | (.crd, _, _) => π.symm
  | (.rcv _, _, _) => π
  | (.snd _, _, _) => Equiv.refl _

def cellE : Dev nD × Cl ↪ GSem nD τ sig :=
  ⟨fun p => cell p.1 p.2, fun _ _ h => Prod.ext (cell_injective h).1 (cell_injective h).2⟩
def tokE : Dev nD × Fin 22 ↪ GSem nD τ sig × ℕ × Fin 4 :=
  ⟨fun p => (cell p.1 (tk p.2).1, (tk p.2).2.1.val, (tk p.2).2.2), fun p p' h => by
    obtain ⟨h1, h2⟩ := cell_injective (congrArg Prod.fst h)
    have h3 := congrArg (fun x => x.2.1) h
    have h4 := congrArg (fun x => x.2.2) h
    exact Prod.ext h1 (tk_injective (Prod.ext h2 (Prod.ext (Fin.ext h3) h4)))⟩

def allCells : Finset (GSem nD τ sig) := Finset.univ.map cellE
def allToks : Finset (GSem nD τ sig × ℕ × Fin 4) := Finset.univ.map tokE

/-- The element the launch starts from. -/
def u₀ : UU :=
  (initOf (Pipeline.cells cfgs cellOf_inj) (Pipeline.launchToks cfgs cellOf_inj),
    (initOf allCells allToks, (Release.initSlots (Finset.univ : Finset (Dev nD × Fin 4)) 1, 1)))

/-- The tokens of the payments to device `c`'s cells; of the payments device `c` makes. -/
def toksTo (c : Dev nD) : sProp 𝕄 := bigSep Finset.univ fun i => dutyTok ER (cell c (tk i).1) (tk i).2.1.val (tk i).2.2
def toksBy (c : Dev nD) : sProp 𝕄 := bigSep Finset.univ fun i => dutyTok ER (cell (payee π (tk i) c) (tk i).1) (tk i).2.1.val (tk i).2.2

/-- What the launch deals device `c`. -/
def G (c : Dev nD) : sProp 𝕄 :=
  iprop((bigSep Finset.univ fun k => roundState ER (Rd m π) (cell c k) 0)
    ∗ (bigSep Finset.univ fun k => reached ER (cell c k) 0) ∗ (bigSep Finset.univ fun k => atPos ER (cell c k) 0 ∅ 0)
    ∗ toksTo c
    ∗ (bigSep Finset.univ fun t : Fin 4 => iprop(Release.releaseAuth ES (c, t) 0 ∗ Release.writeTok ES (c, t) 0))
    ∗ (bigSep Finset.univ fun t : Fin 4 => Release.readerAt ES (c, t) 0)
    ∗ (bigSep Finset.univ fun t : Fin 4 => Release.writeTok ES (c, t) 1))

theorem fund_cells : BI.own (ER (initOf allCells allToks))
    ⊢ (|==> bigSep Finset.univ fun c : Dev nD => iprop((bigSep Finset.univ fun k => roundState ER (Rd m π) (cell c k) 0)
    ∗ (bigSep Finset.univ fun k => reached ER (cell c k) 0) ∗ (bigSep Finset.univ fun k => atPos ER (cell c k) 0 ∅ 0)
    ∗ toksTo c) : sProp 𝕄) := by
  have hX (Φ : GSem nD τ sig → sProp 𝕄) : bigSep allCells Φ = bigSep Finset.univ fun c : Dev nD => bigSep Finset.univ fun k : Cl => Φ (cell c k) := by
    unfold allCells; rw [bigSep_map, bigSep_univ_prod]; rfl
  have hT : bigSep allToks (fun x => (dutyTok ER x.1 x.2.1 x.2.2 : sProp 𝕄)) = bigSep Finset.univ fun c : Dev nD => toksTo c := by
    unfold allToks; rw [bigSep_map, bigSep_univ_prod]; rfl
  iintro HX
  imod (Rounds.fund ER (Rd m π) allCells allToks) $$ HX with ⟨Hst, Hr, Hat, Htok⟩
  imodintro
  ihave Hst := (Entails.of_eq (hX fun g => roundState ER (Rd m π) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  simp only [bigSep_sep']
  isplitl [Hst]; · iexact Hst
  isplitl [Hr]; · iexact Hr
  isplitl [Hat]; · iexact Hat
  iexact Htok

theorem fund_slots : BI.own (ES (Release.initSlots (Finset.univ : Finset (Dev nD × Fin 4)) 1))
    ⊢ (bigSep Finset.univ fun c : Dev nD => iprop((bigSep Finset.univ fun t : Fin 4 => iprop(Release.releaseAuth ES (c, t) 0 ∗ Release.writeTok ES (c, t) 0))
    ∗ (bigSep Finset.univ fun t : Fin 4 => Release.readerAt ES (c, t) 0)
    ∗ (bigSep Finset.univ fun t : Fin 4 => Release.writeTok ES (c, t) 1)) : sProp 𝕄) := by
  refine (Release.own_initSlots ES _ 1).trans ?_
  rw [Finset.range_one, Finset.product_singleton, bigSep_map]
  simp only [bigSep_sep', bigSep_univ_prod]
  iintro ⟨⟨H1, H2⟩, H3, H4⟩
  isplitl [H1 H3]
  · isplitl [H1]; · iexact H1
    iexact H3
  isplitl [H2]; · iexact H2
  iexact H4

theorem fund : (ownU u₀ : sProp 𝕄)
    ⊢ |={Set.univ}=> iprop(BI.own (EP (initOf (Pipeline.cells cfgs cellOf_inj) (Pipeline.launchToks cfgs cellOf_inj))) ∗ bigSep Finset.univ (G m π)) := by
  unfold u₀
  iintro Hu
  ihave ⟨HP, HX⟩ := (ownU_pair _ _) $$ Hu
  ihave ⟨HR, HX⟩ := (own_pair_emb embR _ _) $$ HX
  ihave ⟨HS, -⟩ := (own_pair_emb _ _ _) $$ HX
  ihave HS := (show _ ⊢ _ from fund_slots (F := F)) $$ HS
  imod (show _ ⊢ _ from fund_cells m π) $$ HR with HR
  imodintro
  isplitl [HP]; · iexact HP
  unfold G
  simp only [bigSep_sep']
  icases HR with ⟨H1, H2, H3, H4⟩
  icases HS with ⟨H5, H6, H7⟩
  isplitl [H1]; · iexact H1
  isplitl [H2]; · iexact H2
  isplitl [H3]; · iexact H3
  isplitl [H4]; · iexact H4
  isplitl [H5]; · iexact H5
  isplitl [H6]; · iexact H6
  iexact H7

/-! ## The global step -/

/-- The semaphores of the kernel's own: of the copies, and of the cells other than the barrier. -/
def osem : Fin 11 → SemLoc sig
  | 0 => .dma (inS 0) | 1 => .dma (inS 1) | 2 => .dma (ouS 0) | 3 => .dma (ouS 1) | 4 => csem .crd
  | 5 => csem (.rcv 0) | 6 => csem (.rcv 1) | 7 => csem (.rcv 2) | 8 => csem (.rcv 3) | 9 => csem (.snd 0) | 10 => csem (.snd 1)
theorem ownSemFacts : Pipeline.OwnSemFacts cfg0.spec osem := by decide

/-- The kernel's own semaphores of device `c`, and the barrier's, at zero. -/
abbrev ownS (c : Dev nD) : sProp 𝕄 := Pipeline.ownSems0 (Ix := ℕ) (Name := ℕ) (U := UU) (Lvl := ℕ) (Val := Elt F) (τ := τ) osem c

theorem ownS_eq (c : Dev nD) : (ownS c : sProp 𝕄)
    = iprop(idle c (inS 0) ∗ idle c (inS 1) ∗ idle c (ouS 0) ∗ idle c (ouS 1) ∗ semVal (cell c .crd) 0
      ∗ semVal (cell c (.rcv 0)) 0 ∗ semVal (cell c (.rcv 1)) 0 ∗ semVal (cell c (.rcv 2)) 0 ∗ semVal (cell c (.rcv 3)) 0
      ∗ semVal (cell c (.snd 0)) 0 ∗ semVal (cell c (.snd 1)) 0) := by
  unfold ownS
  rw [Pipeline.ownSems0_eq_of_list c osem [0, 1, 2, 3, 4, 5, 6, 7, 8, 9, 10] (by decide) (by decide)]; rfl
theorem barS_eq (c : Dev nD) : (unscopedSems0 c : sProp 𝕄) = semVal (cell c .bar) 0 := by
  unfold unscopedSems0; rw [bigSep_eq_bigSepL_of_eq [csem .bar] (by decide) (by decide)]; rfl

theorem sems_split (c : Dev nD) : iprop(ownS c ∗ unscopedSems0 c)
    ⊢ (iprop(Idles c ∗ bigSep Finset.univ fun k => semVal (cell c k) 0) : sProp 𝕄) := by
  rw [ownS_eq, barS_eq, bigSep_kinds]
  unfold Idles
  show _ ⊢ iprop(_ ∗ semVal (cell c .bar) 0 ∗ semVal (cell c .crd) 0
    ∗ semVal (cell c (.rcv 0)) 0 ∗ semVal (cell c (.rcv 1)) 0 ∗ semVal (cell c (.rcv 2)) 0 ∗ semVal (cell c (.rcv 3)) 0
    ∗ semVal (cell c (.snd 0)) 0 ∗ semVal (cell c (.snd 1)) 0)
  iintro ⟨⟨H1, H2, H3, H4, H⟩, HB⟩
  isplitl [H1 H2 H3 H4]
  · isplitl [H1 H2]
    · isplitl [H1] <;> iassumption
    · isplitl [H3] <;> iassumption
  isplitl [HB]; · iexact HB
  iexact H

/-- The semaphores at the end. -/
theorem sems_join (c : Dev nD) : iprop(Idles c ∗ Zeros c) ⊢ (iprop(unscopedSems0 c ∗ ownS c) : sProp 𝕄) := by
  rw [ownS_eq, barS_eq]
  unfold Idles Zeros
  iintro ⟨⟨⟨H1, H2⟩, H3, H4⟩, HB, HC, ⟨HS0, HS1⟩, HR0, HR1, HR2, HR3⟩
  isplitl [HB]; · iexact HB
  isplitl [H1]; · iexact H1
  isplitl [H2]; · iexact H2
  isplitl [H3]; · iexact H3
  isplitl [H4]; · iexact H4
  isplitl [HC]; · iexact HC
  isplitl [HR0]; · iexact HR0
  isplitl [HR1]; · iexact HR1
  isplitl [HR2]; · iexact HR2
  isplitl [HR3]; · iexact HR3
  isplitl [HS0]; · iexact HS0
  iexact HS1

/-- What a device has beside the shared records. -/
def own (c : Dev nD) : sProp 𝕄 :=
  iprop(Idles c ∗ (bigSep Finset.univ fun k => atPos ER (cell c k) 0 ∅ 0) ∗ toksBy π c
    ∗ (bigSep Finset.univ fun t : Fin 4 => Release.readerAt ES (c, t) 0)
    ∗ (bigSep Finset.univ fun t : Fin 4 => Release.writeTok ES (nxt π c, t) 1))
/-- What the global step gives a device: the records, at some names, and its own. -/
def G' (c : Dev nD) : sProp 𝕄 := iprop(∃ K KS, (recCells m π K ∗ recSlots KS) ∗ own π c)

/-- One device's cells and slots become invariants. -/
theorem core_alloc (c : Dev nD) : iprop(ownS c ∗ unscopedSems0 c ∗ G m π c)
    ⊢ |={Set.univ}=> iprop(Idles c ∗ (bigSep Finset.univ fun k => iprop(∃ κ : ℕ, cellInv ER (Rd m π) κ (cell c k)))
      ∗ (bigSep Finset.univ fun k => reached ER (cell c k) 0) ∗ (bigSep Finset.univ fun k => atPos ER (cell c k) 0 ∅ 0)
      ∗ toksTo c
      ∗ (bigSep Finset.univ fun t : Fin 4 => iprop(∃ κ : ℕ, Release.slotInv ES κ (c, t) (anyv c (rcV t))))
      ∗ (bigSep Finset.univ fun t : Fin 4 => Release.readerAt ES (c, t) 0)
      ∗ (bigSep Finset.univ fun t : Fin 4 => Release.writeTok ES (c, t) 1)) := by
  have hone (t : Fin 4) : iprop(Release.releaseAuth ES (c, t) 0 ∗ Release.writeTok ES (c, t) 0)
      ⊢ (Release.slotBody ES (c, t) (anyv c (rcV t)) : sProp 𝕄) := by
    unfold Release.slotBody
    iintro ⟨Ha, Hw⟩
    iexists 0
    rw [Finset.range_zero, bigSep_empty]
    isplitl [Ha]; · iexact Ha
    isplitr; · iempintro
    iright; iexact Hw
  have hslots : (bigSep Finset.univ fun t : Fin 4 => iprop(Release.releaseAuth ES (c, t) 0 ∗ Release.writeTok ES (c, t) 0))
      ⊢ (|={Set.univ}=> bigSep Finset.univ fun t : Fin 4 => iprop(∃ κ : ℕ, Release.slotInv ES κ (c, t) (anyv c (rcV t))) : sProp 𝕄) :=
    (bigSep_mono fun t _ => (hone t).trans inv_alloc).trans (bigSep_fupd _ _)
  have hcells : iprop((bigSep Finset.univ fun k => semVal (cell c k) 0) ∗ bigSep Finset.univ fun k => roundState ER (Rd m π) (cell c k) 0)
      ⊢ (|={Set.univ}=> bigSep Finset.univ fun k => iprop(∃ κ : ℕ, cellInv ER (Rd m π) κ (cell c k)) : sProp 𝕄) := by
    rw [← bigSep_sep']
    exact (bigSep_mono fun k _ => (Rounds.body_intro ER (Rd m π) (cell c k)).trans inv_alloc).trans (bigSep_fupd _ _)
  unfold G
  iintro ⟨Ho, Hu, Hst, Hr, Hat, Htok, Hsl, Hrd, Hwr⟩
  ihave ⟨Hid, Hv⟩ := (show _ ⊢ _ from sems_split (F := F) c) $$ [Ho Hu]
  · isplitl [Ho] <;> iassumption
  imod (hcells) $$ [Hv Hst] with Hinv
  · isplitl [Hv] <;> iassumption
  imod (hslots) $$ Hsl with Hslv
  imodintro
  isplitl [Hid]; · iexact Hid
  isplitl [Hinv]; · iexact Hinv
  isplitl [Hr]; · iexact Hr
  isplitl [Hat]; · iexact Hat
  isplitl [Htok]; · iexact Htok
  isplitl [Hslv]; · iexact Hslv
  isplitl [Hrd]; · iexact Hrd
  iexact Hwr

/-- Payments and their payees: a permutation of the tokens. -/
def deal : Dev nD × Fin 22 ≃ Dev nD × Fin 22 where
  toFun p := (payee π (tk p.2) p.1, p.2)
  invFun p := ((payee π (tk p.2)).symm p.1, p.2)
  left_inv p := Prod.ext (Equiv.symm_apply_apply _ _) rfl
  right_inv p := Prod.ext (Equiv.apply_symm_apply _ _) rfl

/-- Each token goes to the device that makes the payment. -/
theorem toks_around : (bigSep Finset.univ fun c : Dev nD => (toksTo c : sProp 𝕄)) = bigSep Finset.univ fun c : Dev nD => toksBy π c := by
  unfold toksTo toksBy
  rw [← bigSep_univ_prod (fun p : Dev nD × Fin 22 => (dutyTok ER (cell p.1 (tk p.2).1) (tk p.2).2.1.val (tk p.2).2.2 : sProp 𝕄)),
    bigSep_univ_equiv (deal π), bigSep_univ_prod]
  rfl

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup : (bigSep Finset.univ fun c : Dev nD => iprop(Idles c ∗ (bigSep Finset.univ fun k => iprop(∃ κ : ℕ, cellInv ER (Rd m π) κ (cell c k)))
      ∗ (bigSep Finset.univ fun k => reached ER (cell c k) 0) ∗ (bigSep Finset.univ fun k => atPos ER (cell c k) 0 ∅ 0)
      ∗ toksTo c
      ∗ (bigSep Finset.univ fun t : Fin 4 => iprop(∃ κ : ℕ, Release.slotInv ES κ (c, t) (anyv c (rcV t))))
      ∗ (bigSep Finset.univ fun t : Fin 4 => Release.readerAt ES (c, t) 0)
      ∗ (bigSep Finset.univ fun t : Fin 4 => Release.writeTok ES (c, t) 1)) : sProp 𝕄)
    ⊢ bigSep Finset.univ (G' m π) := by
  simp only [bigSep_sep']
  rw [← bigSep_univ_prod (fun p : Dev nD × Cl => (iprop(∃ κ : ℕ, cellInv ER (Rd m π) κ (cell p.1 p.2)) : sProp 𝕄)),
    ← bigSep_univ_prod (fun p : Dev nD × Fin 4 => (iprop(∃ κ : ℕ, Release.slotInv ES κ p (anyv p.1 (rcV p.2))) : sProp 𝕄)),
    ← bigSep_univ_prod (fun p : Dev nD × Cl => (reached ER (cell p.1 p.2) 0 : sProp 𝕄)),
    toks_around π, bigSep_univ_equiv π (fun c : Dev nD => (bigSep Finset.univ fun t : Fin 4 => Release.writeTok ES (c, t) 1 : sProp 𝕄))]
  iintro ⟨Hid, HI, #HR, Hat, Htok, HS, Hrd, Hwr⟩
  ihave ⟨%K, #HI⟩ := (BI.bigSep_exists_pi Finset.univ (fun (p : Dev nD × Cl) (κ : ℕ) => (cellInv ER (Rd m π) κ (cell p.1 p.2) : sProp 𝕄))) $$ HI
  ihave ⟨%KS, #HS⟩ := (BI.bigSep_exists_pi Finset.univ (fun (p : Dev nD × Fin 4) (κ : ℕ) => (Release.slotInv ES κ p (anyv p.1 (rcV p.2)) : sProp 𝕄))) $$ HS
  have hg (c : Dev nD) : iprop((recCells m π K ∗ recSlots KS) ∗ own π c) ⊢ G' m π c := by
    unfold G'
    iintro H
    iexists K, KS
    iexact H
  iapply (with_persistent (R := iprop(recCells m π K ∗ recSlots KS)) fun c _ => hg c)
  isplitr
  · unfold recCells recSlots
    rw [bigSep_sep']
    isplitl
    · isplitl; · iexact HI
      iexact HR
    · iexact HS
  · unfold own
    simp only [bigSep_sep']
    isplitl [Hid]; · iexact Hid
    isplitl [Hat]; · iexact Hat
    isplitl [Htok]; · iexact Htok
    isplitl [Hrd]; · iexact Hrd
    iexact Hwr

/-- All cells and slots of all devices become invariants at once. -/
theorem glob : (bigSep Finset.univ fun c => iprop(ownS c ∗ unscopedSems0 c ∗ G m π c) : sProp 𝕄)
    ⊢ |={Set.univ}=> bigSep Finset.univ (G' m π) :=
  ((bigSep_mono fun c _ => core_alloc m π c).trans (bigSep_fupd _ _)).trans (BI.fupd_mono (regroup m π))

/-! ## The launch credit -/

/-- What the payments `l` of all devices come to at a cell of kind `k`, index `u`. -/
def dueTo (k : Cl) : List Pay → ℕ →₀ ℕ
  | [] => 0
  | p :: l => dueTo k l + if p.kind = k then Finsupp.single p.ix p.amt else 0

theorem tal_cons (c : Dev nD) (p : Pay) (l : List Pay) :
    tal π c (p :: l) = tal π c l + tallyAt (cell (p.dev π c) p.kind) p.ix p.amt := rfl

theorem sum_pay (c : Dev nD) (k : Cl) (u : ℕ) (p : Pay) :
    ∑ d : Dev nD, (tallyAt (cell (p.dev π d) p.kind) p.ix p.amt : CellTallies nD τ sig ℕ) (cell c k) u
      = (if p.kind = k then Finsupp.single p.ix p.amt else 0 : ℕ →₀ ℕ) u := by
  have hdev : ∃ e : Equiv.Perm (Dev nD), ∀ d, p.dev π d = e d := by
    cases p
    · exact ⟨π, fun _ => rfl⟩
    · exact ⟨π.symm, fun _ => rfl⟩
    · exact ⟨π, fun _ => rfl⟩
    · exact ⟨π.symm, fun _ => rfl⟩
  obtain ⟨e, he⟩ := hdev
  rw [Finset.sum_eq_single (e.symm c)]
  · rw [he, Equiv.apply_symm_apply, tallyAt_apply]
    by_cases hk : p.kind = k
    · subst hk
      rw [if_pos rfl, Finsupp.single_apply]
      by_cases hu : p.ix = u
      · subst hu; rw [if_pos ⟨rfl, rfl⟩, if_pos rfl]
      · rw [if_neg (fun h => hu h.2.symm), if_neg hu]
    · rw [if_neg hk, if_neg (fun h => hk (cell_injective h.1).2.symm), Finsupp.zero_apply]
  · intro d _ hd
    rw [he, tallyAt_apply, if_neg]
    intro h
    exact hd (by rw [(cell_injective h.1).1, Equiv.symm_apply_apply])
  · exact fun h => absurd (Finset.mem_univ _) h

theorem sum_tal (c : Dev nD) (k : Cl) (u : ℕ) (l : List Pay) : ∑ d : Dev nD, tal π d l (cell c k) u = dueTo k l u := by
  induction l with
  | nil => exact Finset.sum_eq_zero fun d _ => rfl
  | cons p l ih =>
    rw [Finset.sum_congr rfl fun d _ => by rw [tal_cons, Pi.add_apply, Finsupp.add_apply], Finset.sum_add_distrib, ih, sum_pay]
    rw [show dueTo k (p :: l) = dueTo k l + if p.kind = k then Finsupp.single p.ix p.amt else 0 from rfl, Finsupp.add_apply]

/-- The credits for payments to a cell, one by one. -/
def credsOf (g : GSem nD τ sig) : List Pay → sProp 𝕄
  | [] => iprop(emp)
  | p :: l => iprop(cred (tallyAt g p.ix p.amt) ∗ credsOf g l)

/-- The credit for the payments to a cell is that for each of them. -/
theorem cred_due (g : GSem nD τ sig) (k : Cl) (l : List Pay) :
    (cred (tallyOn g (dueTo k l)) : sProp 𝕄) ⊢ credsOf g (l.filter fun p => p.kind = k) := by
  induction l with
  | nil =>
    show _ ⊢ iprop(emp)
    iintro -
    iempintro
  | cons p l ih =>
    rw [show dueTo k (p :: l) = dueTo k l + if p.kind = k then Finsupp.single p.ix p.amt else 0 from rfl]
    by_cases hk : p.kind = k
    · rw [if_pos hk, List.filter_cons_of_pos (by simpa using hk)]
      have hs : (tallyOn g (dueTo k l + Finsupp.single p.ix p.amt) : CellTallies nD τ sig ℕ) = tallyOn g (dueTo k l) + tallyAt g p.ix p.amt := by
        unfold tallyAt tallyOn; exact Pi.single_add _ _ _
      rw [hs]
      show _ ⊢ iprop(cred (tallyAt g p.ix p.amt) ∗ credsOf g (l.filter fun p => p.kind = k))
      iintro ⟨H1, H2⟩
      isplitl [H2]; · iexact H2
      iapply ih; iexact H1
    · rw [if_neg hk, add_zero, List.filter_cons_of_neg (by simpa using hk)]
      exact ih

/-- A device's launch credit at a cell of kind `k`, payment by payment. -/
theorem cred_cell (c : Dev nD) (k : Cl) :
    (cred (tallyOn (cell c k) (launchCredit (Pipeline.owing fun d => tal π d allPays) 0 (cell c k))) : sProp 𝕄)
      ⊢ credsOf (cell c k) (allPays.filter fun p => p.kind = k) := by
  have h : launchCredit (Pipeline.owing fun d => tal π d allPays) 0 (cell c k) = dueTo k allPays :=
    Finsupp.ext fun u => by rw [Pipeline.launchCredit_owing, sum_tal]
  rw [h]
  exact cred_due _ _ _

/-- The launch credit of a device, kind by kind. -/
theorem creds (c : Dev nD) : (Pipeline.launchCred (fun d => tal π d allPays) c : sProp 𝕄)
    ⊢ bigSep Finset.univ fun k : Cl => credsOf (cell c k) (allPays.filter fun p => p.kind = k) := by
  have hsub : (Finset.univ.map ⟨csem, csem_injective⟩ : Finset (SemLoc sig)) ⊆ Finset.univ := Finset.subset_univ _
  unfold Pipeline.launchCred
  refine (bigSep_subset hsub).trans ?_
  rw [bigSep_map]
  exact bigSep_mono fun k _ => cred_cell π c k

end Cert.KernelIdeal.Rot

end
-- ==== Proof.KernelIdeal.Slots.lean ====
/-
# Buffers cut into chunks and slots

The two arrays are held chunk by chunk and the scratch buffers slot by slot.
-/
module

public import proofs.«01_k».proof.Proof.KernelIdeal.Fund

@[expose] public section

noncomputable section

namespace Cert.KernelIdeal.Rot

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (π : Equiv.Perm (Dev nD))

theorem set_xV (i : Fin 8) : (xV i).view.set = (rX i).set := (View.set_reshape _ _).trans (View.set_slice_whole _ _)
theorem set_oV (i : Fin 8) : (oV i).view.set = (rX i).set := (View.set_reshape _ _).trans (View.set_slice_whole _ _)
theorem set_stV (s : Fin 2) : (stV s).view.set = (r2 s).set := (View.set_reshape _ _).trans (View.set_slice_whole _ _)
theorem set_sdV (s : Fin 2) : (sdV s).view.set = (r2 s).set := (View.set_reshape _ _).trans (View.set_slice_whole _ _)
theorem set_wbV (s : Fin 2) : (wbV s).view.set = (r2 s).set := (View.set_reshape _ _).trans (View.set_slice_whole _ _)
theorem set_rcV (s : Fin 4) : (rcV s).view.set = (r4 s).set := (View.set_reshape _ _).trans (View.set_slice_whole _ _)

theorem mem_rX (i : Fin 8) (j : S1x4096x2048.Idx) : j ∈ (rX i).set ↔ (j 1).val / 512 = i.val := by
  rw [Rect.mem_set_unit]
  constructor
  · intro h
    have h1 := h 1
    have h2 : 512 * i.val ≤ (j 1).val ∧ (j 1).val < 512 * i.val + 512 := h1
    omega
  · intro h a
    have hb : ∀ a, (j a).val < S1x4096x2048.size a := fun a => (j a).isLt
    fin_cases a
    · exact ⟨Nat.zero_le _, by have := hb 0; exact (by simpa using this)⟩
    · show 512 * i.val ≤ (j 1).val ∧ (j 1).val < 512 * i.val + 512
      omega
    · exact ⟨Nat.zero_le _, by have := hb 2; exact (by simpa using this)⟩

theorem mem_r2 (s : Fin 2) (j : S2x512x2048.Idx) : j ∈ (r2 s).set ↔ j 0 = s := by
  rw [Rect.mem_set_unit]
  constructor
  · intro h
    have h2 : s.val ≤ (j 0).val ∧ (j 0).val < s.val + 1 := h 0
    exact Fin.ext (by omega)
  · intro h a
    have hb : ∀ a, (j a).val < S2x512x2048.size a := fun a => (j a).isLt
    fin_cases a
    · show s.val ≤ (j 0).val ∧ (j 0).val < s.val + 1
      rw [h]; omega
    · exact ⟨Nat.zero_le _, by have := hb 1; exact (by simpa using this)⟩
    · exact ⟨Nat.zero_le _, by have := hb 2; exact (by simpa using this)⟩

theorem mem_r4 (s : Fin 4) (j : S4x512x2048.Idx) : j ∈ (r4 s).set ↔ j 0 = s := by
  rw [Rect.mem_set_unit]
  constructor
  · intro h
    have h2 : s.val ≤ (j 0).val ∧ (j 0).val < s.val + 1 := h 0
    exact Fin.ext (by omega)
  · intro h a
    have hb : ∀ a, (j a).val < S4x512x2048.size a := fun a => (j a).isLt
    fin_cases a
    · show s.val ≤ (j 0).val ∧ (j 0).val < s.val + 1
      rw [h]; omega
    · exact ⟨Nat.zero_le _, by have := hb 1; exact (by simpa using this)⟩
    · exact ⟨Nat.zero_le _, by have := hb 2; exact (by simpa using this)⟩

/-- Sets told apart by a function are disjoint, and cover if it is total. -/
theorem fibers_disjoint {ι B : Type} [DecidableEq ι] (I : B → Finset ι) (g : ι → B) (h : ∀ b j, j ∈ I b ↔ g j = b) (b b' : B) (hb : b ≠ b') :
    Disjoint (I b) (I b') :=
  Finset.disjoint_left.mpr fun j h1 h2 => hb (((h b j).mp h1).symm.trans ((h b' j).mp h2))
theorem fibers_cover {ι B : Type} [DecidableEq ι] [Fintype ι] [Fintype B] (I : B → Finset ι) (g : ι → B) (h : ∀ b j, j ∈ I b ↔ g j = b) :
    Finset.univ.biUnion I = Finset.univ :=
  Finset.eq_univ_iff_forall.mpr fun j => Finset.mem_biUnion.mpr ⟨g j, Finset.mem_univ _, (h _ _).mpr rfl⟩

/-- The chunk of a row. -/
def chunkOf (j : S1x4096x2048.Idx) : Fin 8 := ⟨(j 1).val / 512, by
  have : (j 1).val < 4096 := (j 1).isLt
  omega⟩

theorem mem_xV (i : Fin 8) (j : S1x4096x2048.Idx) : j ∈ (xV i).view.set ↔ chunkOf j = i := by
  rw [set_xV, mem_rX]; exact ⟨fun h => Fin.ext h, fun h => congrArg Fin.val h⟩
theorem mem_oV (i : Fin 8) (j : S1x4096x2048.Idx) : j ∈ (oV i).view.set ↔ chunkOf j = i := by
  rw [set_oV, mem_rX]; exact ⟨fun h => Fin.ext h, fun h => congrArg Fin.val h⟩

theorem bigSep8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem bigSep4 (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem bigSep2 (Φ : Fin 2 → sProp 𝕄) : bigSep Finset.univ Φ = iprop(Φ 0 ∗ Φ 1) :=
  bigSep_univ_eq_bigSepL [0, 1] (by decide) (by decide) Φ

/-- A buffer whole is its pieces, if the pieces' sets are told apart by `g`; -/
theorem pieces {ℓ : Loc nD τ sig} {B : Type} [Fintype B] [DecidableEq B] (I : B → Finset (Idx ℓ)) (g : Idx ℓ → B)
    (h : ∀ b j, j ∈ I b ↔ g j = b) (f : Buf (Elt F) ℓ) : (ℓ ↦{fullShare} f : sProp 𝕄) ⊢ bigSep Finset.univ fun b => ℓ ↦[I b]{fullShare} f := by
  rw [Ring.pointsTo_blocks I (fibers_disjoint I g h) (fibers_cover I g h) f]
/-- at some contents, -/
theorem cut {ℓ : Loc nD τ sig} {B : Type} [Fintype B] [DecidableEq B] (I : B → Finset (Idx ℓ)) (g : Idx ℓ → B)
    (h : ∀ b j, j ∈ I b ↔ g j = b) : (iprop(∃ f : Buf (Elt F) ℓ, ℓ ↦{fullShare} f) : sProp 𝕄) ⊢ bigSep Finset.univ fun b => Release.slot ℓ (I b) := by
  iintro ⟨%f, H⟩
  have hm : (ℓ ↦{fullShare} f : sProp 𝕄) ⊢ bigSep Finset.univ fun b => Release.slot ℓ (I b) :=
    (pieces I g h f).trans (bigSep_mono fun b _ => by
      unfold Release.slot
      show (_ : sProp 𝕄) ⊢ _
      iintro H; iexists f; iexact H)
  iapply hm; iexact H
/-- and conversely. -/
theorem mend {ℓ : Loc nD τ sig} {B : Type} [Fintype B] [DecidableEq B] (I : B → Finset (Idx ℓ)) (g : Idx ℓ → B)
    (h : ∀ b j, j ∈ I b ↔ g j = b) (f₀ : Buf (Elt F) ℓ) :
    (bigSep Finset.univ fun b => Release.slot ℓ (I b) : sProp 𝕄) ⊢ iprop(∃ f : Buf (Elt F) ℓ, ℓ ↦{fullShare} f) := by
  unfold Release.slot
  exact Ring.pointsTo_blocks_join_exists I (fibers_disjoint I g h) (fibers_cover I g h) f₀

theorem mem_stV (s : Fin 2) (j : S2x512x2048.Idx) : j ∈ (stV s).view.set ↔ j 0 = s := by rw [set_stV]; exact mem_r2 s j
theorem mem_sdV (s : Fin 2) (j : S2x512x2048.Idx) : j ∈ (sdV s).view.set ↔ j 0 = s := by rw [set_sdV]; exact mem_r2 s j
theorem mem_wbV (s : Fin 2) (j : S2x512x2048.Idx) : j ∈ (wbV s).view.set ↔ j 0 = s := by rw [set_wbV]; exact mem_r2 s j
theorem mem_rcV (s : Fin 4) (j : S4x512x2048.Idx) : j ∈ (rcV s).view.set ↔ j 0 = s := by rw [set_rcV]; exact mem_r4 s j

/-- The argument, chunk by chunk. -/
theorem split_x (c : Dev nD) (f : Buf (Elt F) ((c : Thread nD τ).loc main_arg0)) :
    (((c : Thread nD τ).loc main_arg0) ↦{fullShare} f : sProp 𝕄) ⊢ iprop(pts c (xV 0) f ∗ pts c (xV 1) f ∗ pts c (xV 2) f ∗ pts c (xV 3) f
      ∗ pts c (xV 4) f ∗ pts c (xV 5) f ∗ pts c (xV 6) f ∗ pts c (xV 7) f) := by
  have h := pieces (F := F) (ℓ := (c : Thread nD τ).loc main_arg0) (fun i : Fin 8 => (xV i).view.set) chunkOf mem_xV f
  rw [bigSep8] at h
  exact h
/-- The result, chunk by chunk. -/
theorem split_o (c : Dev nD) (f : Buf (Elt F) ((c : Thread nD τ).loc main_v1)) :
    (((c : Thread nD τ).loc main_v1) ↦{fullShare} f : sProp 𝕄) ⊢ iprop(anyv c (oV 0) ∗ anyv c (oV 1) ∗ anyv c (oV 2) ∗ anyv c (oV 3)
      ∗ anyv c (oV 4) ∗ anyv c (oV 5) ∗ anyv c (oV 6) ∗ anyv c (oV 7)) := by
  have h := cut (F := F) (ℓ := (c : Thread nD τ).loc main_v1) (fun i : Fin 8 => (oV i).view.set) chunkOf mem_oV
  rw [bigSep8] at h
  iintro H
  iapply h
  iexists f; iexact H

/-- The scratch buffers cut into the slots, -/
theorem bufs_in (c : Dev nD) : (Pipeline.scopedRest cfg0.spec c : sProp 𝕄) ⊢ Bufs c := by
  have h : (Pipeline.scopedRest cfg0.spec c : sProp 𝕄) = _ := scopedRest0_eq (Ix := ℕ) (Val := Elt F) (Name := ℕ) (U := UU) (Lvl := ℕ) c
  rw [h]
  have h0 := cut (F := F) (ℓ := (c : Thread nD τ).loc cc0_scratch0) (fun s => (stV s).view.set) (fun j => j 0) mem_stV
  have h1 := cut (F := F) (ℓ := (c : Thread nD τ).loc cc0_scratch1) (fun s => (sdV s).view.set) (fun j => j 0) mem_sdV
  have h2 := cut (F := F) (ℓ := (c : Thread nD τ).loc cc0_scratch2) (fun s => (rcV s).view.set) (fun j => j 0) mem_rcV
  have h3 := cut (F := F) (ℓ := (c : Thread nD τ).loc cc0_scratch3) (fun s => (wbV s).view.set) (fun j => j 0) mem_wbV
  rw [bigSep2] at h0 h1 h3
  rw [bigSep4] at h2
  unfold Bufs landing
  iintro ⟨H0, H1, H2, H3⟩
  isplitl [H0]; · iapply h0; iexact H0
  isplitl [H1]; · iapply h1; iexact H1
  isplitl [H2]; · iapply h2; iexact H2
  iapply h3; iexact H3

include m in
/-- and put together again. -/
theorem bufs_out (c : Dev nD) : (Bufs c : sProp 𝕄) ⊢ Pipeline.scopedRest cfg0.spec c := by
  have h : (Pipeline.scopedRest cfg0.spec c : sProp 𝕄) = _ := scopedRest0_eq (Ix := ℕ) (Val := Elt F) (Name := ℕ) (U := UU) (Lvl := ℕ) c
  rw [h]
  have h0 := mend (F := F) (ℓ := (c : Thread nD τ).loc cc0_scratch0) (fun s => (stV s).view.set) (fun j => j 0) mem_stV (m _)
  have h1 := mend (F := F) (ℓ := (c : Thread nD τ).loc cc0_scratch1) (fun s => (sdV s).view.set) (fun j => j 0) mem_sdV (m _)
  have h2 := mend (F := F) (ℓ := (c : Thread nD τ).loc cc0_scratch2) (fun s => (rcV s).view.set) (fun j => j 0) mem_rcV (m _)
  have h3 := mend (F := F) (ℓ := (c : Thread nD τ).loc cc0_scratch3) (fun s => (wbV s).view.set) (fun j => j 0) mem_wbV (m _)
  rw [bigSep2] at h0 h1 h3
  rw [bigSep4] at h2
  unfold Bufs landing
  iintro ⟨H0, H1, H2, H3⟩
  isplitl [H0]; · iapply h0; iexact H0
  isplitl [H1]; · iapply h1; iexact H1
  isplitl [H2]; · iapply h2; iexact H2
  iapply h3; iexact H3

end Cert.KernelIdeal.Rot

end
-- ==== Proof.KernelIdeal.Body.lean ====
/-
# The body of a device

The run of the body at a device `c`, from what it starts with to what it ends with.
-/
module

public import proofs.«01_k».proof.Proof.KernelIdeal.Moves

@[expose] public section

set_option maxRecDepth 8000

noncomputable section

namespace Cert.KernelIdeal.Rot

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (K : Dev nD × Cl → ℕ) (KS : Dev nD × Fin 4 → ℕ)

set_option maxHeartbeats 4000000 in
theorem body_run (σ : Equiv.Perm (Fin 4)) (c : Dev nD) {f : (cc0_stg0_0 : Ref sig .tc).ty.Contents (Elt F)}
    (hf : ∀ i : S4.Idx, (f i : BitVec 32) = wd (σ (i 0))) {Q : PUnit → sProp (MT nD τ sig ℕ (Elt F) ℕ UU ℕ)} :
    records m (ring σ) K KS
      ⊢ iprop(piAt c f -∗ Start m (ring σ) c -∗ (piAt c f -∗ Finish m (ring σ) c -∗ Q ⟨⟩)
          -∗ run c (cc0_body (Memref.whole main_arg0) (Memref.isWhole_whole _) (Memref.whole cc0_stg0_0) (Memref.isWhole_whole _)
            (Memref.whole main_v1) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) cc0_scratch4 cc0_scratch5 cc0_scratch6 cc0_scratch7 cc0_scratch8) Q) := by
  have hN : (⟨k0_dev1 c (wd (σ (yOf c))), k0_dev1_lt c _ (chk1_wd c _)⟩ : Dev nD) = nxt (ring σ) c := Fin.ext (dev1_wd c (σ (yOf c)))
  have hP : (⟨k0_dev2 c (wd (σ 0)) (wd (σ 1)) (wd (σ 2)) (wd (σ 3)), k0_dev2_lt c _ _ _ _ (k0_chk2_all c _ _ _ _)⟩ : Dev nD) = prv (ring σ) c :=
    Fin.ext (dev2_wd σ c)
  unfold Start allPays Chunk Reuse Barrier Bufs Idles Cells
  iintro #Hrec Hpi ⟨HO, ⟨⟨Hx0, Ho0, Ht0, Hc0⟩, ⟨Hx1, Ho1, Ht1, Hc1⟩, ⟨Hx2, Ho2, Ht2, Hc2⟩, ⟨Hx3, Ho3, Ht3, Hc3⟩, ⟨Hx4, Ho4, Ht4, Hc4⟩, ⟨Hx5, Ho5, Ht5, Hc5⟩, ⟨Hx6, Ho6, Ht6, Hc6⟩, ⟨Hx7, Ho7, Ht7, Hc7⟩⟩, ⟨⟨Hk0, Hw0, Hp0, Hr0⟩, ⟨Hk1, Hw1, Hp1, Hr1⟩, ⟨Hk2, Hw2, Hp2, Hr2⟩, ⟨Hk3, Hw3, Hp3, Hr3⟩⟩, ⟨HbN, HbP, Hbat, Hbc⟩, ⟨⟨Hst0, Hst1⟩, ⟨Hsd0, Hsd1⟩, Hland, ⟨Hwb0, Hwb1⟩⟩, ⟨⟨Hi0, Hi1⟩, ⟨Hq0, Hq1⟩⟩, ⟨Hcrd, ⟨HS0, HS1⟩, ⟨HR0, HR1, HR2, HR3⟩⟩⟩ Hfin
  ihave #Hlev := (rec_lev m (ring σ) K KS) $$ Hrec
  simp only [cc0_body_eq_skeleton]
  unfold cc0_body_skel
  simp only [k0_part1_eq_skeleton]
  unfold k0_part1_skel
  simp only [smemLoad, Prog.lift, Prog.bind_op, Prog.bind_ret, Prog.pure_eq_ret, smemLoadElt_bind, wp_deviceId]
  iapply (wp_word σ c hf (yOf c) (congrFun (k0_off1_eq c) 0)) $$ Hpi; iintro Hpi
  iapply (wp_assume 𝒱₀ (c : Thread nD τ) none Set.univ (chk1_wd c (σ (yOf c))))
  iapply (wp_word σ c hf 0 rfl) $$ Hpi; iintro Hpi
  iapply (wp_word σ c hf 1 rfl) $$ Hpi; iintro Hpi
  iapply (wp_word σ c hf 2 rfl) $$ Hpi; iintro Hpi
  iapply (wp_word σ c hf 3 rfl) $$ Hpi; iintro Hpi
  iapply (wp_assume 𝒱₀ (c : Thread nD τ) none Set.univ (k0_chk2_all c (wd (σ 0)) (wd (σ 1)) (wd (σ 2)) (wd (σ 3))))
  iapply (wp_fetch m c 0 0) $$ Hx0 Hst0 Hi0; iintro Hf0
  simp only [k0_part2_eq_skeleton]
  unfold k0_part2_skel
  simp only [semSignalWord, semWaitWord, Prog.lift, Prog.bind_op, Prog.bind_ret, Prog.pure_eq_ret]
  iapply (wp_barN m (ring σ) K KS c _ hN _ rfl) $$ Hrec HO HbN; iintro HO
  iapply (wp_barP m (ring σ) K KS c _ hP _ rfl) $$ Hrec HO HbP Hland; iintro HO
  iapply (wp_barred m (ring σ) K KS c _ rfl rfl) $$ Hrec Hbat Hbc HO; iintro Hbat Hland HO
  iapply (wp_fetched m (ring σ) c 0 0 _ rfl) $$ Hf0 HO Hlev; iintro Hst0 Hx0 Hi0 HO
  iapply (wp_fetch m c 1 1) $$ Hx1 Hst1 Hi1; iintro Hf1
  iapply (wp_ldS m c 0 0) $$ Hst0; iintro Hst0
  unfold landing
  icases Hland with ⟨Hl0, Hl1, Hl2, Hl3⟩
  ihave Hl0 := (land m (ring σ) K KS c 0) $$ Hrec Hl0
  ihave Hl1 := (land m (ring σ) K KS c 1) $$ Hrec Hl1
  ihave Hl2 := (land m (ring σ) K KS c 2) $$ Hrec Hl2
  ihave Hl3 := (land m (ring σ) K KS c 3) $$ Hrec Hl3
  simp only [k0_part3_eq_skeleton]
  unfold k0_part3_skel
  simp only [Prog.lift, Prog.bind_op, Prog.bind_ret, Prog.pure_eq_ret]
  iapply (wp_ldD c 0) $$ Hsd0; iintro %w Hsd0
  iapply (wp_stD m c 0 0 rfl) $$ Hsd0; iintro Hsd0
  iapply (wp_send m (ring σ) K KS c _ hN 0 0 0 0 0 _ (by decide) (by decide) rfl rfl rfl rfl) $$ Hrec Hsd0 Hl0 HO Ht0 HS0
  iintro HS0 HO
  iapply (wp_fetched m (ring σ) c 1 1 _ rfl) $$ Hf1 HO Hlev; iintro Hst1 Hx1 Hi1 HO
  iapply (wp_fetch m c 2 0) $$ Hx2 Hst0 Hi0; iintro Hf0
  simp only [k0_part4_eq_skeleton]
  unfold k0_part4_skel
  simp only [Prog.lift, Prog.bind_op, Prog.bind_ret, Prog.pure_eq_ret]
  iapply (wp_ldS m c 1 1) $$ Hst1; iintro Hst1
  iapply (wp_ldD c 1) $$ Hsd1; iintro %w Hsd1
  iapply (wp_stD m c 1 1 rfl) $$ Hsd1; iintro Hsd1
  iapply (wp_send m (ring σ) K KS c _ hN 1 1 0 1 0 _ (by decide) (by decide) rfl rfl rfl rfl) $$ Hrec Hsd1 Hl1 HO Ht1 HS1
  iintro HS1 HO
  iapply (wp_fetched m (ring σ) c 2 0 _ rfl) $$ Hf0 HO Hlev; iintro Hst0 Hx2 Hi0 HO
  simp only [k0_part5_eq_skeleton]
  unfold k0_part5_skel
  simp only [Prog.lift, Prog.bind_op, Prog.bind_ret, Prog.pure_eq_ret]
  iapply (wp_fetch m c 3 1) $$ Hx3 Hst1 Hi1; iintro Hf1
  iapply (wp_sent m (ring σ) K KS c 0 0 _ (by decide) rfl (credit_sd 0) rfl) $$ Hrec HS0 HO; iintro Hsd0 HS0 HO
  iapply (wp_ldS m c 2 0) $$ Hst0; iintro Hst0
  iapply (wp_ldD c 0) $$ Hsd0; iintro %w Hsd0
  iapply (wp_stD m c 2 0 rfl) $$ Hsd0; iintro Hsd0
  simp only [k0_part6_eq_skeleton]
  unfold k0_part6_skel
  simp only [Prog.lift, Prog.bind_op, Prog.bind_ret, Prog.pure_eq_ret]
  iapply (wp_send m (ring σ) K KS c _ hN 2 0 1 2 0 _ (by decide) (by decide) rfl rfl rfl rfl) $$ Hrec Hsd0 Hl2 HO Ht2 HS0
  iintro HS0 HO
  iapply (wp_landed m (ring σ) K KS c 0 0 0 _ (by decide) rfl rfl (credit_rc 0) rfl) $$ Hrec HR0 Hc0 HO; iintro Hl HR0 #Hre HO
  iapply (wp_ldR m (ring σ) c 0 0) $$ Hl; iintro Hl
  imod (release m (ring σ) K KS c 0) $$ Hrec Hl Hr0 Hre with #Hfr
  ihave #Hfc0 := (freedTo_zero c) $$ Hfr
  iapply (wp_ldW c 0) $$ Hwb0; iintro %w Hwb0
  iapply (wp_stW m (ring σ) c 0 0 rfl) $$ Hwb0; iintro Hwb0
  iapply (wp_back m (ring σ) c 0 0) $$ Hwb0 Ho0 Hq0; iintro Hb0
  simp only [k0_part7_eq_skeleton]
  unfold k0_part7_skel
  simp only [semSignalWord, semWaitWord, Prog.lift, Prog.bind_op, Prog.bind_ret, Prog.pure_eq_ret]
  iapply (wp_credit m (ring σ) K KS c _ hP 0 _ rfl) $$ Hrec HO Hp0 Hfc0; iintro HO
  iapply (wp_fetched m (ring σ) c 3 1 _ rfl) $$ Hf1 HO Hlev; iintro Hst1 Hx3 Hi1 HO
  iapply (wp_fetch m c 4 0) $$ Hx4 Hst0 Hi0; iintro Hf0
  iapply (wp_sent m (ring σ) K KS c 1 0 _ (by decide) rfl (credit_sd 1) rfl) $$ Hrec HS1 HO; iintro Hsd1 HS1 HO
  iapply (wp_ldS m c 3 1) $$ Hst1; iintro Hst1
  simp only [k0_part8_eq_skeleton]
  unfold k0_part8_skel
  simp only [semSignalWord, semWaitWord, Prog.lift, Prog.bind_op, Prog.bind_ret, Prog.pure_eq_ret]
  iapply (wp_ldD c 1) $$ Hsd1; iintro %w Hsd1
  iapply (wp_stD m c 3 1 rfl) $$ Hsd1; iintro Hsd1
  iapply (wp_send m (ring σ) K KS c _ hN 3 1 1 3 0 _ (by decide) (by decide) rfl rfl rfl rfl) $$ Hrec Hsd1 Hl3 HO Ht3 HS1
  iintro HS1 HO
  iapply (wp_landed m (ring σ) K KS c 1 1 0 _ (by decide) rfl rfl (credit_rc 1) rfl) $$ Hrec HR1 Hc1 HO; iintro Hv1 HR1 #Hre HO
  iapply (wp_ldR m (ring σ) c 1 1) $$ Hv1; iintro Hv1
  imod (release m (ring σ) K KS c 1) $$ Hrec Hv1 Hr1 Hre with #Hfr
  ihave #Hfc1 := (freedTo_next c 0 1 rfl) $$ Hfr Hfc0
  simp only [k0_part9_eq_skeleton]
  unfold k0_part9_skel
  simp only [semSignalWord, semWaitWord, Prog.lift, Prog.bind_op, Prog.bind_ret, Prog.pure_eq_ret]
  iapply (wp_ldW c 1) $$ Hwb1; iintro %w Hwb1
  iapply (wp_stW m (ring σ) c 1 1 rfl) $$ Hwb1; iintro Hwb1
  iapply (wp_back m (ring σ) c 1 1) $$ Hwb1 Ho1 Hq1; iintro Hb1
  iapply (wp_credit m (ring σ) K KS c _ hP 1 _ rfl) $$ Hrec HO Hp1 Hfc1; iintro HO
  iapply (wp_fetched m (ring σ) c 4 0 _ rfl) $$ Hf0 HO Hlev; iintro Hst0 Hx4 Hi0 HO
  simp only [k0_part10_eq_skeleton]
  unfold k0_part10_skel
  simp only [semSignalWord, semWaitWord, Prog.lift, Prog.bind_op, Prog.bind_ret, Prog.pure_eq_ret]
  iapply (wp_fetch m c 5 1) $$ Hx5 Hst1 Hi1; iintro Hf1
  iapply (wp_sent m (ring σ) K KS c 0 1 _ (by decide) rfl (credit_sd 0) rfl) $$ Hrec HS0 HO; iintro Hsd0 HS0 HO
  iapply (wp_ldS m c 4 0) $$ Hst0; iintro Hst0
  iapply (wp_ldD c 0) $$ Hsd0; iintro %w Hsd0
  iapply (wp_stD m c 4 0 rfl) $$ Hsd0; iintro Hsd0
  iapply (wp_credited m (ring σ) K KS c 0 0 1 rfl rfl _ rfl rfl) $$ Hrec Hcrd Hk0 Hw0 HO; iintro Hcrd Hl0 HO
  simp only [k0_part11_eq_skeleton]
  unfold k0_part11_skel
  simp only [semSignalWord, semWaitWord, Prog.lift, Prog.bind_op, Prog.bind_ret, Prog.pure_eq_ret]
  iapply (wp_send m (ring σ) K KS c _ hN 4 0 2 0 1 _ (by decide) (by decide) rfl rfl rfl rfl) $$ Hrec Hsd0 Hl0 HO Ht4 HS0
  iintro HS0 HO
  iapply (wp_landed m (ring σ) K KS c 2 2 0 _ (by decide) rfl rfl (credit_rc 2) rfl) $$ Hrec HR2 Hc2 HO; iintro Hv2 HR2 #Hre HO
  iapply (wp_backed m (ring σ) c 0 0 _ rfl) $$ Hb0 HO Hlev; iintro Ho0 Hwb0 Hq0 HO
  iapply (wp_ldR m (ring σ) c 2 2) $$ Hv2; iintro Hv2
  imod (release m (ring σ) K KS c 2) $$ Hrec Hv2 Hr2 Hre with #Hfr
  ihave #Hfc2 := (freedTo_next c 1 2 rfl) $$ Hfr Hfc1
  iapply (wp_ldW c 0) $$ Hwb0; iintro %w Hwb0
  iapply (wp_stW m (ring σ) c 2 0 rfl) $$ Hwb0; iintro Hwb0
  simp only [k0_part12_eq_skeleton]
  unfold k0_part12_skel
  simp only [semSignalWord, semWaitWord, Prog.lift, Prog.bind_op, Prog.bind_ret, Prog.pure_eq_ret]
  iapply (wp_back m (ring σ) c 2 0) $$ Hwb0 Ho2 Hq0; iintro Hb0
  iapply (wp_credit m (ring σ) K KS c _ hP 2 _ rfl) $$ Hrec HO Hp2 Hfc2; iintro HO
  iapply (wp_fetched m (ring σ) c 5 1 _ rfl) $$ Hf1 HO Hlev; iintro Hst1 Hx5 Hi1 HO
  iapply (wp_fetch m c 6 0) $$ Hx6 Hst0 Hi0; iintro Hf0
  simp only [k0_part13_eq_skeleton]
  unfold k0_part13_skel
  simp only [semSignalWord, semWaitWord, Prog.lift, Prog.bind_op, Prog.bind_ret, Prog.pure_eq_ret]
  iapply (wp_sent m (ring σ) K KS c 1 1 _ (by decide) rfl (credit_sd 1) rfl) $$ Hrec HS1 HO; iintro Hsd1 HS1 HO
  iapply (wp_ldS m c 5 1) $$ Hst1; iintro Hst1
  iapply (wp_ldD c 1) $$ Hsd1; iintro %w Hsd1
  iapply (wp_stD m c 5 1 rfl) $$ Hsd1; iintro Hsd1
  iapply (wp_credited m (ring σ) K KS c 1 1 2 rfl rfl _ rfl rfl) $$ Hrec Hcrd Hk1 Hw1 HO; iintro Hcrd Hl1 HO
  iapply (wp_send m (ring σ) K KS c _ hN 5 1 2 1 1 _ (by decide) (by decide) rfl rfl rfl rfl) $$ Hrec Hsd1 Hl1 HO Ht5 HS1
  iintro HS1 HO
  simp only [k0_part14_eq_skeleton]
  unfold k0_part14_skel
  simp only [semSignalWord, semWaitWord, Prog.lift, Prog.bind_op, Prog.bind_ret, Prog.pure_eq_ret]
  iapply (wp_landed m (ring σ) K KS c 3 3 0 _ (by decide) rfl rfl (credit_rc 3) rfl) $$ Hrec HR3 Hc3 HO; iintro Hv3 HR3 #Hre HO
  iapply (wp_backed m (ring σ) c 1 1 _ rfl) $$ Hb1 HO Hlev; iintro Ho1 Hwb1 Hq1 HO
  iapply (wp_ldR m (ring σ) c 3 3) $$ Hv3; iintro Hv3
  imod (release m (ring σ) K KS c 3) $$ Hrec Hv3 Hr3 Hre with #Hfr
  ihave #Hfc3 := (freedTo_next c 2 3 rfl) $$ Hfr Hfc2
  iapply (wp_ldW c 1) $$ Hwb1; iintro %w Hwb1
  iapply (wp_stW m (ring σ) c 3 1 rfl) $$ Hwb1; iintro Hwb1
  iapply (wp_back m (ring σ) c 3 1) $$ Hwb1 Ho3 Hq1; iintro Hb1
  simp only [k0_part15_eq_skeleton]
  unfold k0_part15_skel
  simp only [semSignalWord, semWaitWord, Prog.lift, Prog.bind_op, Prog.bind_ret, Prog.pure_eq_ret]
  iapply (wp_credit m (ring σ) K KS c _ hP 3 _ rfl) $$ Hrec HO Hp3 Hfc3; iintro HO
  iapply (wp_fetched m (ring σ) c 6 0 _ rfl) $$ Hf0 HO Hlev; iintro Hst0 Hx6 Hi0 HO
  iapply (wp_fetch m c 7 1) $$ Hx7 Hst1 Hi1; iintro Hf1
  iapply (wp_sent m (ring σ) K KS c 0 2 _ (by decide) rfl (credit_sd 0) rfl) $$ Hrec HS0 HO; iintro Hsd0 HS0 HO
  iapply (wp_ldS m c 6 0) $$ Hst0; iintro Hst0
  iapply (wp_ldD c 0) $$ Hsd0; iintro %w Hsd0
  simp only [k0_part16_eq_skeleton]
  unfold k0_part16_skel
  simp only [semSignalWord, semWaitWord, Prog.lift, Prog.bind_op, Prog.bind_ret, Prog.pure_eq_ret]
  iapply (wp_stD m c 6 0 rfl) $$ Hsd0; iintro Hsd0
  iapply (wp_credited m (ring σ) K KS c 2 2 3 rfl rfl _ rfl rfl) $$ Hrec Hcrd Hk2 Hw2 HO; iintro Hcrd Hl2 HO
  iapply (wp_send m (ring σ) K KS c _ hN 6 0 3 2 1 _ (by decide) (by decide) rfl rfl rfl rfl) $$ Hrec Hsd0 Hl2 HO Ht6 HS0
  iintro HS0 HO
  iapply (wp_landed m (ring σ) K KS c 4 0 1 _ (by decide) rfl rfl (credit_rc 0) rfl) $$ Hrec HR0 Hc4 HO; iintro Hv0 HR0 #Hre HO
  simp only [k0_part17_eq_skeleton]
  unfold k0_part17_skel
  simp only [semSignalWord, semWaitWord, Prog.lift, Prog.bind_op, Prog.bind_ret, Prog.pure_eq_ret]
  iapply (wp_backed m (ring σ) c 2 0 _ rfl) $$ Hb0 HO Hlev; iintro Ho2 Hwb0 Hq0 HO
  iapply (wp_ldR m (ring σ) c 4 0) $$ Hv0; iintro Hv0
  iapply (wp_ldW c 0) $$ Hwb0; iintro %w Hwb0
  iapply (wp_stW m (ring σ) c 4 0 rfl) $$ Hwb0; iintro Hwb0
  iapply (wp_back m (ring σ) c 4 0) $$ Hwb0 Ho4 Hq0; iintro Hb0
  iapply (wp_fetched m (ring σ) c 7 1 _ rfl) $$ Hf1 HO Hlev; iintro Hst1 Hx7 Hi1 HO
  simp only [k0_part18_eq_skeleton]
  unfold k0_part18_skel
  simp only [semSignalWord, semWaitWord, Prog.lift, Prog.bind_op, Prog.bind_ret, Prog.pure_eq_ret]
  iapply (wp_sent m (ring σ) K KS c 1 2 _ (by decide) rfl (credit_sd 1) rfl) $$ Hrec HS1 HO; iintro Hsd1 HS1 HO
  iapply (wp_ldS m c 7 1) $$ Hst1; iintro Hst1
  iapply (wp_ldD c 1) $$ Hsd1; iintro %w Hsd1
  iapply (wp_stD m c 7 1 rfl) $$ Hsd1; iintro Hsd1
  iapply (wp_credited m (ring σ) K KS c 3 3 4 rfl rfl _ rfl rfl) $$ Hrec Hcrd Hk3 Hw3 HO; iintro Hcrd Hl3 HO
  iapply (wp_send m (ring σ) K KS c _ hN 7 1 3 3 1 _ (by decide) (by decide) rfl rfl rfl rfl) $$ Hrec Hsd1 Hl3 HO Ht7 HS1
  iintro HS1 HO
  simp only [k0_part19_eq_skeleton]
  unfold k0_part19_skel
  simp only [semSignalWord, semWaitWord, Prog.lift, Prog.bind_op, Prog.bind_ret, Prog.pure_eq_ret]
  iapply (wp_landed m (ring σ) K KS c 5 1 1 _ (by decide) rfl rfl (credit_rc 1) rfl) $$ Hrec HR1 Hc5 HO; iintro Hv1 HR1 #Hre HO
  iapply (wp_backed m (ring σ) c 3 1 _ rfl) $$ Hb1 HO Hlev; iintro Ho3 Hwb1 Hq1 HO
  iapply (wp_ldR m (ring σ) c 5 1) $$ Hv1; iintro Hv1
  iapply (wp_ldW c 1) $$ Hwb1; iintro %w Hwb1
  iapply (wp_stW m (ring σ) c 5 1 rfl) $$ Hwb1; iintro Hwb1
  iapply (wp_back m (ring σ) c 5 1) $$ Hwb1 Ho5 Hq1; iintro Hb1
  simp only [k0_part20_eq_skeleton]
  unfold k0_part20_skel
  simp only [semSignalWord, semWaitWord, Prog.lift, Prog.bind_op, Prog.bind_ret, Prog.pure_eq_ret]
  iapply (wp_landed m (ring σ) K KS c 6 2 1 _ (by decide) rfl rfl (credit_rc 2) rfl) $$ Hrec HR2 Hc6 HO; iintro Hv2 HR2 #Hre HO
  iapply (wp_backed m (ring σ) c 4 0 _ rfl) $$ Hb0 HO Hlev; iintro Ho4 Hwb0 Hq0 HO
  iapply (wp_ldR m (ring σ) c 6 2) $$ Hv2; iintro Hv2
  iapply (wp_ldW c 0) $$ Hwb0; iintro %w Hwb0
  iapply (wp_stW m (ring σ) c 6 0 rfl) $$ Hwb0; iintro Hwb0
  simp only [k0_part21_eq_skeleton]
  unfold k0_part21_skel
  simp only [semSignalWord, semWaitWord, Prog.lift, Prog.bind_op, Prog.bind_ret, Prog.pure_eq_ret]
  iapply (wp_back m (ring σ) c 6 0) $$ Hwb0 Ho6 Hq0; iintro Hb0
  iapply (wp_landed m (ring σ) K KS c 7 3 1 _ (by decide) rfl rfl (credit_rc 3) rfl) $$ Hrec HR3 Hc7 HO; iintro Hv3 HR3 #Hre HO
  iapply (wp_backed m (ring σ) c 5 1 _ rfl) $$ Hb1 HO Hlev; iintro Ho5 Hwb1 Hq1 HO
  iapply (wp_ldR m (ring σ) c 7 3) $$ Hv3; iintro Hv3
  iapply (wp_ldW c 1) $$ Hwb1; iintro %w Hwb1
  iapply (wp_stW m (ring σ) c 7 1 rfl) $$ Hwb1; iintro Hwb1
  simp only [k0_part22_eq_skeleton]
  unfold k0_part22_skel
  simp only [semSignalWord, semWaitWord, Prog.lift, Prog.bind_op, Prog.bind_ret, Prog.pure_eq_ret]
  iapply (wp_back m (ring σ) c 7 1) $$ Hwb1 Ho7 Hq1; iintro Hb1
  iapply (wp_sent m (ring σ) K KS c 0 3 _ (by decide) rfl (credit_sd 0) rfl) $$ Hrec HS0 HO; iintro Hsd0 HS0 HO
  iapply (wp_sent m (ring σ) K KS c 1 3 _ (by decide) rfl (credit_sd 1) rfl) $$ Hrec HS1 HO; iintro Hsd1 HS1 HO
  iapply (wp_backed m (ring σ) c 6 0 _ rfl) $$ Hb0 HO Hlev; iintro Ho6 Hwb0 Hq0 HO
  iapply (wp_backed m (ring σ) c 7 1 _ rfl) $$ Hb1 HO Hlev; iintro Ho7 Hwb1 Hq1 HO
  imod (close_crd m (ring σ) K KS c) $$ Hrec Hcrd with Hz0
  imod (close m (ring σ) K KS c .bar 1 rfl) $$ Hrec Hbat with Hz1
  unfold SndAt
  icases HS0 with ⟨HS0, -⟩
  icases HS1 with ⟨HS1, -⟩
  imod (close m (ring σ) K KS c (.snd 0) 4 rfl) $$ Hrec HS0 with Hz2
  imod (close m (ring σ) K KS c (.snd 1) 4 rfl) $$ Hrec HS1 with Hz3
  imod (close m (ring σ) K KS c (.rcv 0) 2 rfl) $$ Hrec HR0 with Hz4
  imod (close m (ring σ) K KS c (.rcv 1) 2 rfl) $$ Hrec HR1 with Hz5
  imod (close m (ring σ) K KS c (.rcv 2) 2 rfl) $$ Hrec HR2 with Hz6
  imod (close m (ring σ) K KS c (.rcv 3) 2 rfl) $$ Hrec HR3 with Hz7
  rw [wp_ret]; imodintro
  iapply Hfin $$ Hpi
  unfold Finish Done Bufs Idles Zeros landing
  isplitl [HO]; · iexact HO
  isplitl [Hx0 Ho0 Hx1 Ho1 Hx2 Ho2 Hx3 Ho3 Hx4 Ho4 Hx5 Ho5 Hx6 Ho6 Hx7 Ho7]
  · isplitl [Hx0 Ho0]; · isplitl [Hx0] <;> iassumption
    isplitl [Hx1 Ho1]; · isplitl [Hx1] <;> iassumption
    isplitl [Hx2 Ho2]; · isplitl [Hx2] <;> iassumption
    isplitl [Hx3 Ho3]; · isplitl [Hx3] <;> iassumption
    isplitl [Hx4 Ho4]; · isplitl [Hx4] <;> iassumption
    isplitl [Hx5 Ho5]; · isplitl [Hx5] <;> iassumption
    isplitl [Hx6 Ho6]; · isplitl [Hx6] <;> iassumption
    isplitl [Hx7] <;> iassumption
  isplitl [Hst0 Hst1 Hsd0 Hsd1 Hv0 Hv1 Hv2 Hv3 Hwb0 Hwb1]
  · isplitl [Hst0 Hst1]; · isplitl [Hst0] <;> iassumption
    isplitl [Hsd0 Hsd1]; · isplitl [Hsd0] <;> iassumption
    isplitl [Hv0 Hv1 Hv2 Hv3]
    · isplitl [Hv0]; · iexact Hv0
      isplitl [Hv1]; · iexact Hv1
      isplitl [Hv2] <;> iassumption
    isplitl [Hwb0] <;> iassumption
  isplitl [Hi0 Hi1 Hq0 Hq1]
  · isplitl [Hi0 Hi1]; · isplitl [Hi0] <;> iassumption
    isplitl [Hq0] <;> iassumption
  isplitl [Hz1]; · iexact Hz1
  isplitl [Hz0]; · iexact Hz0
  isplitl [Hz2 Hz3]; · isplitl [Hz2] <;> iassumption
  isplitl [Hz4]; · iexact Hz4
  isplitl [Hz5]; · iexact Hz5
  isplitl [Hz6] <;> iassumption

end Cert.KernelIdeal.Rot

end
-- ==== Proof.KernelIdeal.Launch.lean ====
/-
# The launch

From any memory whose every copy of the permutation's argument holds the permutation `σ`, with all counters at zero, the
program runs to the end on every device: it terminates, the two arguments are as they were, each chunk of the result is
the sender's chunk through the two casts, and every counter is at zero again.
-/
module

public import proofs.«01_k».proof.Proof.KernelIdeal.Slots
public import proofs.«01_k».proof.Proof.KernelIdeal.Body
public import Idealize.ShloMosaic.Lib.Pipeline.CollectiveSegs

@[expose] public section

set_option maxRecDepth 8000

noncomputable section

namespace Cert.KernelIdeal.Rot

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (π : Equiv.Perm (Dev nD))

/-! ## What a device starts from -/

/-- The chunks of the two arrays at the start, -/
def Xs (c : Dev nD) : sProp 𝕄 := iprop(pts c (xV 0) (xin m c) ∗ pts c (xV 1) (xin m c) ∗ pts c (xV 2) (xin m c) ∗ pts c (xV 3) (xin m c)
  ∗ pts c (xV 4) (xin m c) ∗ pts c (xV 5) (xin m c) ∗ pts c (xV 6) (xin m c) ∗ pts c (xV 7) (xin m c))
def Os (c : Dev nD) : sProp 𝕄 := iprop(anyv c (oV 0) ∗ anyv c (oV 1) ∗ anyv c (oV 2) ∗ anyv c (oV 3)
  ∗ anyv c (oV 4) ∗ anyv c (oV 5) ∗ anyv c (oV 6) ∗ anyv c (oV 7))
/-- and at the end. -/
def Dones (c : Dev nD) : sProp 𝕄 :=
  iprop(Done m π c 0 ∗ Done m π c 1 ∗ Done m π c 2 ∗ Done m π c 3 ∗ Done m π c 4 ∗ Done m π c 5 ∗ Done m π c 6 ∗ Done m π c 7)

/-- The launch credit of a device. -/
def Creds (c : Dev nD) : sProp 𝕄 := bigSep Finset.univ fun k : Cl => credsOf (cell c k) (allPays.filter fun p => p.kind = k)

/-- What device `c` starts from, the scratch buffers aside. -/
def X (c : Dev nD) : sProp 𝕄 := iprop((G' m π c ∗ levs) ∗ Creds c ∗ Xs m c ∗ Os c)

/-- The credits, wait by wait. -/
theorem creds_split (c : Dev nD) : (Creds c : sProp 𝕄) ⊢ iprop(cred (tallyAt (cell c .bar) 0 2)
    ∗ (cred (tallyAt (cell c .crd) 0 1) ∗ cred (tallyAt (cell c .crd) 1 1) ∗ cred (tallyAt (cell c .crd) 2 1) ∗ cred (tallyAt (cell c .crd) 3 1))
    ∗ (cred (tallyAt (cell c (.rcv 0)) 0 N) ∗ cred (tallyAt (cell c (.rcv 1)) 1 N) ∗ cred (tallyAt (cell c (.rcv 2)) 2 N) ∗ cred (tallyAt (cell c (.rcv 3)) 3 N))
    ∗ (cred (tallyAt (cell c (.rcv 0)) 4 N) ∗ cred (tallyAt (cell c (.rcv 1)) 5 N) ∗ cred (tallyAt (cell c (.rcv 2)) 6 N) ∗ cred (tallyAt (cell c (.rcv 3)) 7 N))) := by
  have h2 : (tallyAt (cell c .bar) 0 2 : CellTallies nD τ sig ℕ) = tallyAt (cell c .bar) 0 1 + tallyAt (cell c .bar) 0 1 := by
    unfold tallyAt tallyOn
    rw [← Pi.single_add, ← Finsupp.single_add]
  unfold Creds
  rw [bigSep_kinds, h2]
  show iprop((cred (tallyAt (cell c .bar) 0 1) ∗ cred (tallyAt (cell c .bar) 0 1) ∗ emp)
    ∗ (cred (tallyAt (cell c .crd) 0 1) ∗ cred (tallyAt (cell c .crd) 1 1) ∗ cred (tallyAt (cell c .crd) 2 1) ∗ cred (tallyAt (cell c .crd) 3 1) ∗ emp)
    ∗ (cred (tallyAt (cell c (.rcv 0)) 0 N) ∗ cred (tallyAt (cell c (.rcv 0)) 4 N) ∗ emp)
    ∗ (cred (tallyAt (cell c (.rcv 1)) 1 N) ∗ cred (tallyAt (cell c (.rcv 1)) 5 N) ∗ emp)
    ∗ (cred (tallyAt (cell c (.rcv 2)) 2 N) ∗ cred (tallyAt (cell c (.rcv 2)) 6 N) ∗ emp)
    ∗ (cred (tallyAt (cell c (.rcv 3)) 3 N) ∗ cred (tallyAt (cell c (.rcv 3)) 7 N) ∗ emp) ∗ emp ∗ emp) ⊢ _
  iintro ⟨⟨B1, B2, -⟩, ⟨C0, C1, C2, C3, -⟩, ⟨R0, R4, -⟩, ⟨R1, R5, -⟩, ⟨R2, R6, -⟩, ⟨R3, R7, -⟩, -, -⟩
  isplitl [B1 B2]
  · isplitl [B1] <;> iassumption
  isplitl [C0 C1 C2 C3]
  · isplitl [C0]; · iexact C0
    isplitl [C1]; · iexact C1
    isplitl [C2] <;> iassumption
  isplitl [R0 R1 R2 R3]
  · isplitl [R0]; · iexact R0
    isplitl [R1]; · iexact R1
    isplitl [R2] <;> iassumption
  isplitl [R4]; · iexact R4
  isplitl [R5]; · iexact R5
  isplitl [R6] <;> iassumption

/-- The tokens a device pays with, one by one. -/
theorem toks_split (c : Dev nD) : (toksBy π c : sProp 𝕄) ⊢ iprop(dutyTok ER (cell (nxt π c) .bar) 0 0 ∗ dutyTok ER (cell (prv π c) .bar) 0 1
    ∗ dutyTok ER (cell (prv π c) .crd) 0 0 ∗ dutyTok ER (cell (prv π c) .crd) 0 1 ∗ dutyTok ER (cell (prv π c) .crd) 0 2 ∗ dutyTok ER (cell (prv π c) .crd) 0 3
    ∗ dutyTok ER (cell (nxt π c) (.rcv 0)) 0 0 ∗ dutyTok ER (cell (nxt π c) (.rcv 1)) 0 0 ∗ dutyTok ER (cell (nxt π c) (.rcv 2)) 0 0 ∗ dutyTok ER (cell (nxt π c) (.rcv 3)) 0 0
    ∗ dutyTok ER (cell (nxt π c) (.rcv 0)) 1 0 ∗ dutyTok ER (cell (nxt π c) (.rcv 1)) 1 0 ∗ dutyTok ER (cell (nxt π c) (.rcv 2)) 1 0 ∗ dutyTok ER (cell (nxt π c) (.rcv 3)) 1 0
    ∗ dutyTok ER (cell c (.snd 0)) 0 0 ∗ dutyTok ER (cell c (.snd 1)) 0 0 ∗ dutyTok ER (cell c (.snd 0)) 1 0 ∗ dutyTok ER (cell c (.snd 1)) 1 0
    ∗ dutyTok ER (cell c (.snd 0)) 2 0 ∗ dutyTok ER (cell c (.snd 1)) 2 0 ∗ dutyTok ER (cell c (.snd 0)) 3 0 ∗ dutyTok ER (cell c (.snd 1)) 3 0) := by
  unfold toksBy
  rw [bigSep_univ_eq_bigSepL [0, 1, 2, 3, 4, 5, 6, 7, 8, 9, 10, 11, 12, 13, 14, 15, 16, 17, 18, 19, 20, 21] (by decide) (by decide)]
  exact Entails.refl _

/-- Where a device's cells stand at first. -/
theorem pos_split (c : Dev nD) : (bigSep Finset.univ fun k => atPos ER (cell c k) 0 ∅ 0)
    ⊢ (iprop(atPos ER (cell c .bar) 0 ∅ 0 ∗ atPos ER (cell c .crd) 0 ∅ 0
    ∗ atPos ER (cell c (.rcv 0)) 0 ∅ 0 ∗ atPos ER (cell c (.rcv 1)) 0 ∅ 0 ∗ atPos ER (cell c (.rcv 2)) 0 ∅ 0 ∗ atPos ER (cell c (.rcv 3)) 0 ∅ 0
    ∗ atPos ER (cell c (.snd 0)) 0 ∅ 0 ∗ atPos ER (cell c (.snd 1)) 0 ∅ 0) : sProp 𝕄) := by
  rw [bigSep_kinds]
  exact Entails.refl _

/-- The parts together. -/
theorem start_intro (K : Dev nD × Cl → ℕ) (KS : Dev nD × Fin 4 → ℕ) (c : Dev nD) : (records m π K KS : sProp 𝕄)
    ⊢ iprop(Owes π c allPays -∗ own π c -∗ Creds c -∗ Xs m c -∗ Os c -∗ Bufs c -∗ Start m π c) := by
  iintro #Hrec HO Hown Hcr Hx Ho Hb
  ihave ⟨-, #Hs0⟩ := (rec_cell m π K KS c (.snd 0)) $$ Hrec
  ihave ⟨-, #Hs1⟩ := (rec_cell m π K KS c (.snd 1)) $$ Hrec
  ihave Hcr := (show _ ⊢ _ from creds_split (F := F) c) $$ Hcr
  unfold own
  rw [bigSep4, bigSep4]
  icases Hown with ⟨Hid, Hat, Htok, ⟨Hr0, Hr1, Hr2, Hr3⟩, ⟨Hw0, Hw1, Hw2, Hw3⟩⟩
  ihave Htok := (show _ ⊢ _ from toks_split (F := F) π c) $$ Htok
  ihave Hat := (pos_split (F := F) c) $$ Hat
  icases Hat with ⟨HaB, HaC, HaR0, HaR1, HaR2, HaR3, HaS0, HaS1⟩
  icases Hcr with ⟨HcB, ⟨C0, C1, C2, C3⟩, ⟨R0, R1, R2, R3⟩, ⟨R4, R5, R6, R7⟩⟩
  icases Htok with ⟨TbN, TbP, TC0, TC1, TC2, TC3, TR0, TR1, TR2, TR3, TR4, TR5, TR6, TR7, TS0, TS1, TS2, TS3, TS4, TS5, TS6, TS7⟩
  unfold Xs Os
  icases Hx with ⟨X0, X1, X2, X3, X4, X5, X6, X7⟩
  icases Ho with ⟨O0, O1, O2, O3, O4, O5, O6, O7⟩
  unfold Start Chunk Reuse Barrier Cells CrdAt SndAt sendTok
  isplitl [HO]; · iexact HO
  isplitl [X0 X1 X2 X3 X4 X5 X6 X7 O0 O1 O2 O3 O4 O5 O6 O7 TS0 TS1 TS2 TS3 TS4 TS5 TS6 TS7 TR0 TR1 TR2 TR3 TR4 TR5 TR6 TR7 R0 R1 R2 R3 R4 R5 R6 R7]
  · isplitl [X0 O0 TS0 TR0 R0]
    · isplitl [X0]; · iexact X0
      isplitl [O0]; · iexact O0
      isplitl [TS0 TR0]; · isplitl [TS0] <;> iassumption
      iexact R0
    isplitl [X1 O1 TS1 TR1 R1]
    · isplitl [X1]; · iexact X1
      isplitl [O1]; · iexact O1
      isplitl [TS1 TR1]; · isplitl [TS1] <;> iassumption
      iexact R1
    isplitl [X2 O2 TS2 TR2 R2]
    · isplitl [X2]; · iexact X2
      isplitl [O2]; · iexact O2
      isplitl [TS2 TR2]; · isplitl [TS2] <;> iassumption
      iexact R2
    isplitl [X3 O3 TS3 TR3 R3]
    · isplitl [X3]; · iexact X3
      isplitl [O3]; · iexact O3
      isplitl [TS3 TR3]; · isplitl [TS3] <;> iassumption
      iexact R3
    isplitl [X4 O4 TS4 TR4 R4]
    · isplitl [X4]; · iexact X4
      isplitl [O4]; · iexact O4
      isplitl [TS4 TR4]; · isplitl [TS4] <;> iassumption
      iexact R4
    isplitl [X5 O5 TS5 TR5 R5]
    · isplitl [X5]; · iexact X5
      isplitl [O5]; · iexact O5
      isplitl [TS5 TR5]; · isplitl [TS5] <;> iassumption
      iexact R5
    isplitl [X6 O6 TS6 TR6 R6]
    · isplitl [X6]; · iexact X6
      isplitl [O6]; · iexact O6
      isplitl [TS6 TR6]; · isplitl [TS6] <;> iassumption
      iexact R6
    isplitl [X7]; · iexact X7
    isplitl [O7]; · iexact O7
    isplitl [TS7 TR7]; · isplitl [TS7] <;> iassumption
    iexact R7
  isplitl [C0 C1 C2 C3 Hw0 Hw1 Hw2 Hw3 TC0 TC1 TC2 TC3 Hr0 Hr1 Hr2 Hr3]
  · isplitl [C0 Hw0 TC0 Hr0]
    · isplitl [C0]; · iexact C0
      isplitl [Hw0]; · iexact Hw0
      isplitl [TC0] <;> iassumption
    isplitl [C1 Hw1 TC1 Hr1]
    · isplitl [C1]; · iexact C1
      isplitl [Hw1]; · iexact Hw1
      isplitl [TC1] <;> iassumption
    isplitl [C2 Hw2 TC2 Hr2]
    · isplitl [C2]; · iexact C2
      isplitl [Hw2]; · iexact Hw2
      isplitl [TC2] <;> iassumption
    isplitl [C3]; · iexact C3
    isplitl [Hw3]; · iexact Hw3
    isplitl [TC3] <;> iassumption
  isplitl [TbN TbP HaB HcB]
  · isplitl [TbN]; · iexact TbN
    isplitl [TbP]; · iexact TbP
    isplitl [HaB] <;> iassumption
  isplitl [Hb]; · iexact Hb
  isplitl [Hid]; · iexact Hid
  isplitl [HaC]
  · iexists ∅
    isplitr; · ipureintro; exact Nat.zero_le _
    isplitl [HaC]; · iexact HaC
    rw [bigSep_empty]
    iempintro
  isplitl [HaS0 HaS1]
  · isplitl [HaS0]
    · isplitl [HaS0]; · iexact HaS0
      iexact Hs0
    · isplitl [HaS1]; · iexact HaS1
      iexact Hs1
  isplitl [HaR0]; · iexact HaR0
  isplitl [HaR1]; · iexact HaR1
  isplitl [HaR2] <;> iassumption

/-! ## The pipeline's data and the body's obligation -/

variable (ρ : Dev nD → PrngReg) (σ : Equiv.Perm (Fin 4))

/-- The state at the start. -/
abbrev s₀ : MemSt nD τ sig (Elt F) := ⟨m, fun _ => 0, ρ⟩

/-- The permutation's argument as staged for the body. -/
def xstg (c : Dev nD) : (cc0_stg0_0 : Ref sig .tc).ty.Contents (Elt F) :=
  (win0_0.blk (0 : Fin 1)).view.read (Elt F) ((s₀ m ρ).mem ((c : Thread nD τ).loc main_arg1))

/-- What device `c` ends with, the scratch buffers included. -/
def Φ₁ (c : Dev nD) : sProp 𝕄 := iprop(Dones m π c ∗ Bufs c ∗ Idles c ∗ Zeros c)

def dats (_ : Fin 1) (c : Dev nD) : Pipeline.Dat τ (Elt F) ℕ ℕ UU ℕ cfg0 c where
  A w := (s₀ m ρ).mem ((cfg0.win w).arr.view.loc (c : Thread nD τ))
  after w _ := match w with
    | ⟨0, _⟩ => xstg m ρ c
  Φ t := match t with
    | ⟨0, _⟩ => iprop(X m π c ∗ Bufs c)
    | ⟨_ + 1, _⟩ => Φ₁ m π c
  q _ := fullShare
  owed t := match t with
    | ⟨0, _⟩ => tal π c allPays
    | ⟨_ + 1, _⟩ => 0

theorem fetch_0 (t : Fin cfg0.N) : (cfg0.win (0 : Fin 1)).fetch t = true := by rw [fin_N0 t]; rfl

theorem owns_whole_eq (c : Dev nD) (b : Ref sig .tc) (V : b.ty.Contents (Elt F)) :
    (owns (Ix := ℕ) (Name := ℕ) (U := UU) (Lvl := ℕ) (c : Thread nD τ) (Memref.whole b) fullShare V : sProp 𝕄)
      = iprop(∃ f : Buf (Elt F) (((c : Dev nD) : Thread nD τ).loc b), ⌜f = V⌝ ∗ (((c : Thread nD τ).loc b) ↦{fullShare} f)) := by
  unfold owns; simp only [Memref.view_whole, View.read_whole, View.set_whole]

/-- The staged argument holds `V`. -/
abbrev stg (c : Dev nD) (V : (cc0_stg0_0 : Ref sig .tc).ty.Contents (Elt F)) : sProp 𝕄 :=
  iprop(∃ f : Buf (Elt F) ((c : Thread nD τ).loc cc0_stg0_0), ⌜f = V⌝ ∗ (((c : Thread nD τ).loc cc0_stg0_0) ↦{fullShare} f))

def bodyPre (c : Dev nD) : sProp 𝕄 :=
  iprop((X m π c ∗ Bufs c) ∗ (dats m π ρ 0 c).owesAt 0 t0_0.castSucc ∗ (∃ d, stg c ((dats m π ρ 0 c).before (0 : Fin 1) t0_0 d)))
def bodyPost (c : Dev nD) : sProp 𝕄 :=
  iprop(Φ₁ m π c ∗ (dats m π ρ 0 c).owesAt 0 t0_0.succ ∗ stg c (xstg m ρ c))

/-- Staging copies the argument as it is. -/
theorem xstg_eq (c : Dev nD) : xstg m ρ c = m ((c : Thread nD τ).loc main_arg1) := by
  funext i
  show m ((c : Thread nD τ).loc main_arg1) ((win0_0.blk (0 : Fin 1)).view.emb i) = m ((c : Thread nD τ).loc main_arg1) i
  congr 1
  funext a
  fin_cases a
  apply Fin.ext
  show (win0_0.rect (0 : Fin 1)).off 0 + 1 * (i 0).val = (i 0).val
  rw [show (win0_0.rect (0 : Fin 1)).off 0 = 0 from by decide]; omega

theorem sound_body (c : Dev nD) (hσ : ∀ i : S4.Idx, (m ((c : Thread nD τ).loc main_arg1) i : BitVec 32) = wd (σ (i 0))) :
    bodyPre m (ring σ) ρ c ⊢ run c (cc0_body (Memref.whole main_arg0) (Memref.isWhole_whole _) (Memref.whole cc0_stg0_0) (Memref.isWhole_whole _)
            (Memref.whole main_v1) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) cc0_scratch4 cc0_scratch5 cc0_scratch6 cc0_scratch7 cc0_scratch8)
      (fun _ => bodyPost m (ring σ) ρ c) := by
  unfold bodyPre X G' Pipeline.Dat.owesAt Pipeline.owesWithin
  iintro ⟨⟨⟨⟨⟨%K, %KS, #Hrec, Hown⟩, #Hlev⟩, Hcr, Hx, Ho⟩, Hb⟩, ⟨%W, %hW, HO⟩, ⟨%d, %f, %hf, Hpi⟩⟩
  have hfx : f = xstg m ρ c := by rw [hf]; unfold Pipeline.Dat.before; rw [if_pos (fetch_0 t0_0)]; rfl
  subst hfx
  have hrec : iprop((recCells m (ring σ) K ∗ recSlots KS) ∗ levs) ⊢ (records m (ring σ) K KS : sProp 𝕄) := by
    unfold records
    iintro ⟨⟨H1, H2⟩, H3⟩
    isplitl [H1]; · iexact H1
    isplitl [H2] <;> iassumption
  ihave #Hr := (hrec) $$ [Hrec Hlev]
  · isplitl; · iexact Hrec
    iexact Hlev
  iapply (body_run m K KS σ c (f := xstg m ρ c) (fun i => by rw [xstg_eq]; exact hσ i)) $$ Hr [Hpi] [HO Hown Hcr Hx Ho Hb]
  · unfold piAt; iexact Hpi
  · iapply (start_intro m (ring σ) K KS c) $$ Hr [HO] Hown Hcr Hx Ho Hb
    unfold Owes; iexists W; iexact HO
  iintro Hpi Hfin
  unfold Finish bodyPost Φ₁ Dones Pipeline.Dat.owesAt Pipeline.owesWithin
  icases Hfin with ⟨HO, HD, HB, HI, HZ⟩
  isplitl [HD HB HI HZ]
  · isplitl [HD]; · iexact HD
    isplitl [HB]; · iexact HB
    isplitl [HI] <;> iassumption
  isplitl [HO]
  · unfold Owes
    icases HO with ⟨%W', HO⟩
    iexists W'
    isplitr; · ipureintro; exact fun _ _ => Or.inl trivial
    iexact HO
  iexists _; isplitr; · (ipureintro; rfl)
  unfold piAt; iexact Hpi

/-- The library's obligation for the body on device `c`. -/
theorem body_obligation (hσ : ∀ (c : Dev nD) (i : S4.Idx), (m ((c : Thread nD τ).loc main_arg1) i : BitVec 32) = wd (σ (i 0))) (c : Dev nD) :
    Pipeline.BodyObligation (dats m (ring σ) ρ 0 c) (defs₀ (F := F)) 𝒱₀ 0 Set.univ := fun t => by
  rw [fin_N0 t]
  rw [bigSep_W0, bigSep_W0]
  simp only [owns_whole_eq]
  exact sound_body m ρ σ c (hσ c)

/-! ## The launch theorem's side conditions -/

theorem share_eq (c : Dev nD) (w : Fin cfg0.W) : (dats m π ρ 0 c).share w = fullShare := by unfold Pipeline.Dat.share; split <;> rfl

theorem waits (c : Dev nD) : (levAts L lv : sProp 𝕄) ⊢ Pipeline.cellsWaits cfgs (dats m π ρ) 0 0 c :=
  Pipeline.cellsWaits_intro cfgs (dats m π ρ) 0 0 c fun w s t => by
    rcases t with ⟨_ | _, ht⟩
    · have h := mayWait_tal (F := F) π c (.dma ((win0 w).sem s)) 0 allPays 0 (by decide)
        (by
          unfold lv
          rw [ck_none (show ∀ k, csem k ≠ .dma ((win0 w).sem s) by revert w; decide)]
          exact Nat.le_refl 0) (by decide)
      unfold levs at h
      exact h
    · show _ ⊢ MayWait _ _ _ 0
      rw [MayWait_zero]; iintro -; iempintro

theorem x_intro (c : Dev nD) :
    iprop(Pipeline.unscopedRestP Pipeline.Prefetch.none cfg0.spec c (fun b => m ((c : Thread nD τ).loc b)) ∗ levAts L lv
        ∗ Pipeline.launchCred (fun d => tal π d allPays) c ∗ prngReg c (ρ c) ∗ G' m π c)
      ⊢ |={Set.univ}=> iprop(X m π c ∗ emp) := by
  have hun : (Pipeline.unscopedRestP Pipeline.Prefetch.none cfg0.spec c (fun b => m ((c : Thread nD τ).loc b)) : sProp 𝕄)
      ⊢ iprop((((c : Thread nD τ).loc main_arg0) ↦{fullShare} m ((c : Thread nD τ).loc main_arg0)) ∗ (((c : Thread nD τ).loc main_v1) ↦{fullShare} m ((c : Thread nD τ).loc main_v1))) := by
    rw [Pipeline.unscopedRestP_none]
    exact Entails.of_eq (unscopedRest0_eq c _)
  have hlev : (levAts L lv : sProp 𝕄) ⊢ levs := by unfold levs; exact Entails.refl _
  iintro ⟨Hun, Hlev, Hcr, -, HG⟩
  ihave ⟨Hx, Ho⟩ := (hun) $$ Hun
  ihave Hx := (show _ ⊢ _ from split_x c (m ((c : Thread nD τ).loc main_arg0))) $$ Hx
  ihave Ho := (show _ ⊢ _ from split_o c (m ((c : Thread nD τ).loc main_v1))) $$ Ho
  ihave Hcr := (show _ ⊢ _ from creds π c) $$ Hcr
  ihave Hlev := (hlev) $$ Hlev
  imodintro
  unfold X Creds Xs Os
  isplitl
  · isplitl [HG Hlev]
    · isplitl [HG] <;> iassumption
    isplitl [Hcr]; · iexact Hcr
    isplitl [Hx]; · iexact Hx
    iexact Ho
  · iempintro

theorem phi0_intro (c : Dev nD) :
    iprop(X m π c ∗ Pipeline.prefHeld Pipeline.Prefetch.none c (fun _ => fullShare.right) (fun k => k.elim0) ∗ Pipeline.scopedRest cfg0.spec c)
      ⊢ (dats m π ρ 0 c).Φ 0 := by
  show _ ⊢ iprop(X m π c ∗ Bufs c)
  iintro ⟨Hs, -, Hr⟩
  isplitl [Hs]; · iexact Hs
  iapply (show _ ⊢ _ from bufs_in (F := F) c); iexact Hr

theorem phi1_exit (c : Dev nD) :
    (dats m π ρ 0 c).Φ (Fin.last cfg0.N) ⊢ iprop((unscopedSems0 c ∗ Dones m π c) ∗ ownS c ∗ Pipeline.scopedRest cfg0.spec c) := by
  show Φ₁ m π c ⊢ _
  unfold Φ₁
  iintro ⟨HD, HB, HI, HZ⟩
  ihave ⟨Hu, Ho⟩ := (show _ ⊢ _ from sems_join (F := F) c) $$ [HI HZ]
  · isplitl [HI] <;> iassumption
  isplitl [Hu HD]
  · isplitl [Hu] <;> iassumption
  isplitl [Ho]; · iexact Ho
  iapply (show _ ⊢ _ from bufs_out m c); iexact HB

/-- What chunk `i` of device `c` is at the end, in a memory. -/
def DoneIn (c : Dev nD) (s : MemSt nD τ sig (Elt F)) (i : Fin 8) : Prop :=
  (∀ j ∈ (xV i).view.set, s.mem ((c : Thread nD τ).loc main_arg0) j = m ((c : Thread nD τ).loc main_arg0) j)
    ∧ (oV i).view.read (Elt F) (s.mem ((c : Thread nD τ).loc main_v1)) = zc m (prv π c) i

theorem done_read (c : Dev nD) (s' : Phys nD τ sig (Elt F)) (i : Fin 8) :
    iprop(Done m π c i ∗ SI s') ⊢ (⌜DoneIn m π c s'.mem i⌝ : sProp 𝕄) := by
  unfold Done holds
  iintro ⟨⟨Hx, %f, %hf, Ho⟩, HSI⟩
  ihave %hx := (SI_pointsTo_agree) $$ [HSI Hx]
  · isplitl [HSI] <;> iassumption
  ihave %ho := (SI_pointsTo_agree) $$ [HSI Ho]
  · isplitl [HSI] <;> iassumption
  ipureintro
  refine ⟨hx, ?_⟩
  rw [← hf]
  funext x
  exact ho _ (View.emb_mem_set _ x)

/-- What is read off the end state of device `c`. -/
def EndIn (c : Dev nD) (s : MemSt nD τ sig (Elt F)) : Prop :=
  (∀ sm : SemLoc sig, sm.isScoped .tc = false → s.sem ((c.tc : Thread nD τ), sm) = 0) ∧ ∀ i : Fin 8, DoneIn m π c s i

theorem end_read (c : Dev nD) (s' : Phys nD τ sig (Elt F)) :
    iprop((unscopedSems0 c ∗ Dones m π c) ∗ emp ∗ SI s') ⊢ |={Set.univ}=> iprop(⌜EndIn m π c s'.mem⌝ ∗ SI s') := by
  have hsem := Pipeline.unscopedSems0_read (X := (unscopedSems0 c : sProp 𝕄)) (c := c) fupd_intro s'
  have hd (i : Fin 8) := done_read m π c s' i
  unfold Dones
  iintro ⟨⟨Hu, D0, D1, D2, D3, D4, D5, D6, D7⟩, -, HSI⟩
  ihave %h0 := (hd 0) $$ [D0 HSI]
  · isplitl [D0] <;> iassumption
  ihave %h1 := (hd 1) $$ [D1 HSI]
  · isplitl [D1] <;> iassumption
  ihave %h2 := (hd 2) $$ [D2 HSI]
  · isplitl [D2] <;> iassumption
  ihave %h3 := (hd 3) $$ [D3 HSI]
  · isplitl [D3] <;> iassumption
  ihave %h4 := (hd 4) $$ [D4 HSI]
  · isplitl [D4] <;> iassumption
  ihave %h5 := (hd 5) $$ [D5 HSI]
  · isplitl [D5] <;> iassumption
  ihave %h6 := (hd 6) $$ [D6 HSI]
  · isplitl [D6] <;> iassumption
  ihave %h7 := (hd 7) $$ [D7 HSI]
  · isplitl [D7] <;> iassumption
  imod (hsem) $$ [Hu HSI] with ⟨%hs, HSI⟩
  · isplitl [Hu] <;> iassumption
  imodintro
  isplitr
  · ipureintro
    refine ⟨hs, fun i => ?_⟩
    fin_cases i <;> assumption
  iexact HSI

/-! ## The run -/

/-- The end of a run: on every device the chunks done, the permutation's argument as it was, every counter at zero. -/
def EndAll (r : PUnit × MemSt nD τ sig (Elt F)) : Prop :=
  (∀ c : Dev nD, (∀ i : Fin 8, DoneIn m π c r.2 i) ∧ r.2.mem ((c : Thread nD τ).loc main_arg1) = m ((c : Thread nD τ).loc main_arg1))
    ∧ r.2.sem = fun _ => 0

/-- If on every device the permutation's argument holds `σ`, every execution of the program from counters at zero
    terminates, at such an end. -/
theorem run_main (hσ : ∀ (c : Dev nD) (i : S4.Idx), (m ((c : Thread nD τ).loc main_arg1) i : BitVec 32) = wd (σ (i 0))) :
    θ_run defs (onTc (τ := τ) (main (F := F))) (s₀ m ρ) (EndAll m (ring σ)) :=
  Pipeline.θ_run_region_owing_glob_pf (fun p => (cfgs p).toPCfg) (fun p => (cfgs p).toPCfg_adm) (dats m (ring σ) ρ) 0 cellOf_inj (0 : Fin 1)
    winFacts0.to₀ ownSemFacts (Pipeline.PreFacts.none _) EP defs₀ 𝒱₀ m ρ main
    (hmain := fun _ => rfl)
    (hbody := fun c => (body_obligation m ρ σ hσ c).loose) (hne := fun w => by fin_cases w; exact Nat.succ_pos _) (harr := arr_whole0) (hstage := stage_whole0)
    (hshare := share_eq m (ring σ) ρ) (hdistinct := winFacts0.arr_inj)
    (O₀ := fun d => tal (ring σ) d allPays) (howed₀ := fun _ => rfl) (howedN := fun _ => rfl)
    (L := L) (lv := lv) (hL := L_of_ne) (hwaits := waits m (ring σ) ρ)
    (G := G m (ring σ)) (G' := G' m (ring σ)) (u₀ := u₀) (hu₀ := fund m (ring σ)) (hglob := glob m (ring σ))
    (hA := fun _ _ => rfl) (hpf := fun _ k => k.elim0)
    (X := X m (ring σ)) (Y := fun c => iprop(unscopedSems0 c ∗ Dones m (ring σ) c)) (Z := fun _ => iprop(emp))
    (hX := x_intro m (ring σ) ρ) (hin := phi0_intro m (ring σ) ρ) (hout := phi1_exit m (ring σ) ρ)
    (QY := EndIn m (ring σ)) (hY := end_read m (ring σ))
    (hQ := fun _ h hs => ⟨fun c => ⟨(h c).2.2.2, ((h c).1 (0 : Fin 1)).trans ((dats m (ring σ) ρ 0 c).arrAt_in (0 : Fin 1) rfl _)⟩,
      sem_eq_zero hs fun c => (h c).2.2.1⟩)

end Cert.KernelIdeal.Rot

end
-- ==== Proof.KernelIdeal.End.lean ====
/-
  What a run ends with, said of whole arrays: the arguments as they were, the result of each device the argument of the
  device that sends to it, through the two casts.
-/
module

public import proofs.«01_k».proof.Proof.KernelIdeal.Launch

@[expose] public section

noncomputable section

namespace Cert.KernelIdeal.Rot

open Cert.KernelIdeal Cert.KernelIdeal.Gen

open Idealize.ShloMosaic
open Idealize.ShloMosaic.TcCoe
open Idealize.SL.Sem

variable {F : FTy → Type} [FloatOps F]

variable (m : (ℓ : Loc nD τ sig) → Buf (Elt F) ℓ) (ρ : Dev nD → PrngReg)

/-- A device's block through the two casts, to sixteen bits and back. -/
def moved (x : FVec F S1x4096x2048 .f32) : FVec F S1x4096x2048 .f32 :=
  extf .f32 (truncf .bf16 x bitsLt_bf16_f32 : FVec F S1x4096x2048 .bf16) bitsLt_bf16_f32

/-- The first argument is as it was if each of its chunks is. -/
theorem x_kept {π : Equiv.Perm (Dev nD)} {c : Dev nD} {s : MemSt nD τ sig (Elt F)} (h : ∀ i, DoneIn m π c s i) :
    s.mem ((c : Thread nD τ).loc main_arg0) = m ((c : Thread nD τ).loc main_arg0) :=
  funext fun j => (h (chunkOf j)).1 j ((mem_xV _ j).2 rfl)

/-- The result is the sender's block through the casts if each of its chunks is. -/
theorem out_moved {π : Equiv.Perm (Dev nD)} {c : Dev nD} {s : MemSt nD τ sig (Elt F)} (h : ∀ i, DoneIn m π c s i) :
    (s.mem ((c : Thread nD τ).loc main_v1) : FVec F S1x4096x2048 .f32) = moved (m ((prv π c : Thread nD τ).loc main_arg0)) := by
  funext j
  obtain ⟨k, -, hk⟩ := Finset.mem_map.1 ((mem_oV (chunkOf j) j).2 rfl)
  have hd := h (chunkOf j)
  revert hk hd
  generalize chunkOf j = i
  rintro rfl hd
  exact congrFun hd.2 k

/-- From a memory where every device's `pi` is the permutation `σ` the program runs to the end; then both arguments are
    as they were and every counter is at zero. -/
theorem run_frame (σ : Equiv.Perm (Fin 4))
    (hσ : ∀ (c : Dev nD) (i : S4.Idx), (m ((c : Thread nD τ).loc main_arg1) i : BitVec 32) = wd (σ (i 0))) :
    θ_run defs (onTc (τ := τ) (main (F := F))) ⟨m, fun _ => 0, ρ⟩ fun r =>
      (∀ c : Dev nD, r.2.mem ((c : Thread nD τ).loc main_arg0) = m ((c : Thread nD τ).loc main_arg0)
        ∧ r.2.mem ((c : Thread nD τ).loc main_arg1) = m ((c : Thread nD τ).loc main_arg1))
      ∧ r.2.sem = fun _ => 0 :=
  (θ_run defs _ _).mono (fun _ h => ⟨fun c => ⟨x_kept m (h.1 c).1, (h.1 c).2⟩, h.2⟩) (run_main m ρ σ hσ)

/-- From such a memory each device's result ends as the block, through the casts, of the device of its line whose place
    `σ` sends to its own. -/
theorem run_value (σ : Equiv.Perm (Fin 4))
    (hσ : ∀ (c : Dev nD) (i : S4.Idx), (m ((c : Thread nD τ).loc main_arg1) i : BitVec 32) = wd (σ (i 0))) :
    θ_run defs (onTc (τ := τ) (main (F := F))) ⟨m, fun _ => 0, ρ⟩ fun r =>
      ∀ c : Dev nD, (r.2.mem ((c : Thread nD τ).loc main_v1) : FVec F S1x4096x2048 .f32)
          = moved (m ((atY c (σ.symm (yOf c)) : Thread nD τ).loc main_arg0))
        ∧ r.2.mem ((c : Thread nD τ).loc main_arg0) = m ((c : Thread nD τ).loc main_arg0)
        ∧ r.2.mem ((c : Thread nD τ).loc main_arg1) = m ((c : Thread nD τ).loc main_arg1) :=
  (θ_run defs _ _).mono (fun _ h c => ⟨out_moved m (h.1 c).1, x_kept m (h.1 c).1, (h.1 c).2⟩) (run_main m ρ σ hσ)

/-- Comparing two vectors of words and finding every entry equal is finding them equal. -/
theorem eq_of_cmpi {s : Shape} {x y : IVec s 32} (h : cmpi .eq x y = fun _ => 1#1) (i : s.Idx) : x i = y i := by
  have hi : BitVec.ofBool (x i == y i) = 1#1 := congrFun h i
  cases hb : x i == y i with
  | true => exact eq_of_beq hb
  | false => rw [hb] at hi; exact absurd hi (by decide)

/-- `run_frame` for a memory whose every copy of `pi` compares equal, entry for entry, to the words of a permutation. -/
theorem frame_of_words {m : (ℓ : Loc nD τ sig) → Buf (Elt F) ℓ} (ρ : Dev nD → PrngReg) {w : IVec S4 32}
    (h : ∀ c : Dev nD, cmpi .eq (m ((c : Thread nD τ).loc main_arg1) : IVec S4 32) w = fun _ => 1#1)
    (hw : ∃ σ : Equiv.Perm (Fin 4), ∀ i : S4.Idx, w i = wd (σ (i 0)) := by decide +kernel) :
    θ_run defs (onTc (τ := τ) (main (F := F))) ⟨m, fun _ => 0, ρ⟩ fun r =>
      (∀ c : Dev nD, r.2.mem ((c : Thread nD τ).loc main_arg0) = m ((c : Thread nD τ).loc main_arg0)
        ∧ r.2.mem ((c : Thread nD τ).loc main_arg1) = m ((c : Thread nD τ).loc main_arg1))
      ∧ r.2.sem = fun _ => 0 :=
  hw.elim fun σ hσ => run_frame m ρ σ fun c i => (eq_of_cmpi (h c) i).trans (hσ i)

end Cert.KernelIdeal.Rot

end
-- ==== Proof.ReferenceIdeal.Take.lean ====
/-
  The run of the reference on its one device, and what its result is. The reference sorts the four words of `pi`
  carrying their positions, adds four to a negative position (none is), and gathers the blocks of `x` at the positions:
  for words that are a permutation `σ`, entry `k` of the result is block `σ.symm k` of `x`.
-/
module

public import proofs.«01_k».proof.Proof.Gen.ReferenceIdeal
public import Idealize.ShloMosaic.Lib.StableHlo.Run
public import Idealize.ShloMosaic.Lib.SortFacts
public import Idealize.ShloMosaic.Lib.Quiescent

@[expose] public section

noncomputable section

namespace Cert.ReferenceIdeal.Take

open Cert.ReferenceIdeal Cert.ReferenceIdeal.Gen
open Idealize.ShloMosaic Idealize.ShloMosaic.TcCoe Idealize.ShloMosaic.StableHlo Idealize.SL.Sem

variable {F : FTy → Type} [FloatOps F]

/-- The positions in the order of the words they hold. -/
def order (p : IVec S4 32) : IVec S4 32 := (Host.sort2 S4 0 comparator_i32_i32_d0 p (iotaInDim S4 32 0)).2

/-- The positions with a negative one wrapped, as the gather's one column of start indices. -/
def starts (q : IVec S4 32) : IVec S4x1 32 :=
  broadcastInDim S4x1 ![0] bcast_S4_S4x1_0
    (select (cmpi .slt q (broadcastInDim S4 ![] bcast_S_S4 (constantI S_ 32 0#32)))
      (addi q (broadcastInDim S4 ![] bcast_S_S4 (constantI S_ 32 4#32))) q)

/-- The reference's result of its two arguments. -/
def out (x : FVec F S4x4096x2048 .f32) (p : IVec S4 32) : FVec F S4x4096x2048 .f32 :=
  Host.gather gather_S4x4096x2048_S4x1_S4x4096x2048_12_0_n_n_0_1_140962048 x (starts (order p))

/-- The reference's operations in order, the sort's call written out. -/
abbrev line : List (HloOp τ sig (Elt F)) :=
  [ TRef.nullary main_call0.v0 (iotaInDim S4 32 0),
    TRef.binary (.of main_arg1) main_call0.v0 main_call0.v1_0 (fun x y => (Host.sort2 S4 0 comparator_i32_i32_d0 x y).1),
    TRef.binary (.of main_arg1) main_call0.v0 main_call0.v1_1 (fun x y => (Host.sort2 S4 0 comparator_i32_i32_d0 x y).2),
    nullary main_c (constantI S_ 32 0#32),
    unary main_c main_v1 (broadcastInDim S4 ![] bcast_S_S4),
    binary main_v0 main_v1 main_v2 (cmpi .slt),
    nullary main_c_0 (constantI S_ 32 4#32),
    unary main_c_0 main_v3 (broadcastInDim S4 ![] bcast_S_S4),
    binary main_v0 main_v3 main_v4 addi,
    ternary main_v2 main_v4 main_v0 main_v5 select,
    unary main_v5 main_v6 (broadcastInDim S4x1 ![0] bcast_S4_S4x1_0),
    binary main_arg0 main_v6 main_v7
      (fun x i => Host.gather gather_S4x4096x2048_S4x1_S4x4096x2048_12_0_n_n_0_1_140962048 x i) ]

/-- The reference's program is that line. -/
theorem main_line (c : Dev nD) : main (F := F) c = seq line := rfl

/-- After the line the result's buffer holds `out` of the arguments. -/
theorem result_after (V : Valuation τ sig (Elt F)) :
    after line V (main_v7 : DevRef τ sig) = out (F := F) (V (main_arg0 : DevRef τ sig)) (V (main_arg1 : DevRef τ sig)) := by
  after_results
  rfl

/-- No operation of the line writes `x`. -/
theorem x_after (V : Valuation τ sig (Elt F)) : after line V (main_arg0 : DevRef τ sig) = V (main_arg0 : DevRef τ sig) := by
  after_results

/-- No operation of the line writes `pi`. -/
theorem pi_after (V : Valuation τ sig (Elt F)) : after line V (main_arg1 : DevRef τ sig) = V (main_arg1 : DevRef τ sig) := by
  after_results

theorem no_scoped_refs : (Finset.univ.filter fun b : Ref sig .tc => b.isScoped) = ∅ := by decide
theorem no_scoped_sems : (Finset.univ.filter fun s : SemLoc sig => s.isScoped .tc) = ∅ := by decide

/-- Each operation of the line touches buffers of the TensorCore alone. -/
theorem line_bufs : (line : List (HloOp τ sig (Elt F))).Forall fun op => op.bufs ⊆ tcRefs τ sig :=
  ⟨nullary_bufs_sub .., binary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..⟩

/-- Run from any memory the reference ends with `out` of the arguments in its result's buffer, the arguments unchanged
    and every counter at zero. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c : Thread nD τ).loc main_v7)
          = out (F := F) (m ((c : Thread nD τ).loc main_arg0)) (m ((c : Thread nD τ).loc main_arg1))
        ∧ r.2.mem ((c : Thread nD τ).loc main_arg0) = m ((c : Thread nD τ).loc main_arg0)
        ∧ r.2.mem ((c : Thread nD τ).loc main_arg1) = m ((c : Thread nD τ).loc main_arg1))
      ∧ r.2.sem = fun _ => 0 :=
  (θ_run defs _ _).mono
    (fun r h => ⟨fun c => ⟨(h c main_v7).trans (result_after _), (h c main_arg0).trans (x_after _), (h c main_arg1).trans (pi_after _)⟩,
      sem_eq_zero_of_no_sems (by decide) r.2⟩)
    (run_seq no_scoped_refs no_scoped_sems defs main (fun _ => line) main_line (fun _ => line_bufs) m ρ)

/-! ## The positions -/

/-- For an injective table on four positions, sorting the positions by the table's entries puts at each place the
    position whose entry is that place. -/
theorem sorted_table : ∀ p : Fin 4 → Fin 4, Function.Injective p → ∀ k, p (sortedFrom (fun a b => decide (p a < p b)) k) = k := by
  decide +kernel

/-- Comparing the words of two entries, signed, compares the entries. -/
theorem word_lt : ∀ a b : Fin 4,
    (IntOp.cmpi .slt (BitVec.ofNat 32 a.val) (BitVec.ofNat 32 b.val) == 1#1) = decide (a < b) := by
  decide

/-- For the words of a permutation the order is the inverse permutation. -/
theorem order_perm (σ : Equiv.Perm (Fin 4)) (p : IVec S4 32) (hp : ∀ i : S4.Idx, p i = BitVec.ofNat 32 (σ (i 0)).val) (j : S4.Idx) :
    order p j = BitVec.ofNat 32 (σ.symm (j 0)).val := by
  have hs : sortedFrom (fun a b : Fin 4 => decide (σ a < σ b)) (j 0) = σ.symm (j 0) :=
    (Equiv.eq_symm_apply σ).2 (sorted_table σ σ.injective (j 0))
  have hR : (fun k k' : Fin 4 => comparator_i32_i32_d0 (p (j.along 0 k), iotaInDim S4 32 0 (j.along 0 k))
      (p (j.along 0 k'), iotaInDim S4 32 0 (j.along 0 k')) == 1#1) = fun a b => decide (σ a < σ b) := by
    funext a b
    show (IntOp.cmpi .slt (p (j.along 0 a)) (p (j.along 0 b)) == 1#1) = _
    rw [hp, hp, ← word_lt]
    rfl
  have hw : order p j = BitVec.ofNat 32 (sortedFrom (fun k k' : Fin 4 => comparator_i32_i32_d0
      (p (j.along 0 k), iotaInDim S4 32 0 (j.along 0 k)) (p (j.along 0 k'), iotaInDim S4 32 0 (j.along 0 k')) == 1#1) (j 0)).val := rfl
  rw [hw, hR, hs]

/-- A position below four is not wrapped. -/
theorem wrap_small : ∀ a : Fin 4, Scalar.select (IntOp.cmpi .slt (BitVec.ofNat 32 a.val) 0#32)
    (BitVec.ofNat 32 a.val + 4#32) (BitVec.ofNat 32 a.val) = BitVec.ofNat 32 a.val := by
  decide

/-- The start indices of positions that are words of a table of positions. -/
theorem starts_table (f : Fin 4 → Fin 4) (q : IVec S4 32) (hq : ∀ j : S4.Idx, q j = BitVec.ofNat 32 (f (j 0)).val) (i : S4x1.Idx) :
    starts q i = BitVec.ofNat 32 (f (i 0)).val := by
  have e : ∃ j : S4.Idx, j 0 = i 0 ∧ starts q i
      = Scalar.select (IntOp.cmpi .slt (q j) 0#32) (q j + 4#32) (q j) := ⟨_, rfl, rfl⟩
  obtain ⟨j, hj, e⟩ := e
  rw [e, hq, hj, wrap_small]

/-- The place of the gather's operand that its result's place `j` reads, when the start indices hold the words of a table. -/
def place (f : Fin 4 → Fin 4) (j : S4x4096x2048.Idx) : S4x4096x2048.Idx := Function.update j 0 (f (j 0))

/-- A start index below four is read as it is: the clamp leaves it. -/
theorem clamp_small : ∀ a : Fin 4, min (BitVec.ofNat 32 a.val).toInt.toNat (4 - 1) = a.val := by decide

/-- The gather at start indices that hold the words of a table. -/
theorem gather_table {α : Type} (f : Fin 4 → Fin 4) (x : S4x4096x2048.Idx → α) (s : IVec S4x1 32)
    (hs : ∀ i : S4x1.Idx, s i = BitVec.ofNat 32 (f (i 0)).val) (j : S4x4096x2048.Idx) :
    Host.gather gather_S4x4096x2048_S4x1_S4x4096x2048_12_0_n_n_0_1_140962048 x s j = x (place f j) := by
  unfold Host.gather
  refine congrArg x (funext fun a => Fin.ext ?_)
  match a with
  | ⟨0, _⟩ =>
    show min (s _).toInt.toNat (4 - 1) + 0 + 0 = (f (j 0)).val
    rw [hs]
    exact clamp_small _
  | ⟨1, _⟩ =>
    show 0 + 0 + (j 1).val = (j 1).val
    omega
  | ⟨2, _⟩ =>
    show 0 + 0 + (j 2).val = (j 2).val
    omega

/-- For words that are a permutation `σ`, entry `k` of the result is block `σ.symm k` of `x`. -/
theorem out_perm (σ : Equiv.Perm (Fin 4)) (x : FVec F S4x4096x2048 .f32) (p : IVec S4 32)
    (hp : ∀ i : S4.Idx, p i = BitVec.ofNat 32 (σ (i 0)).val) (j : S4x4096x2048.Idx) :
    out (F := F) x p j = x (place σ.symm j) :=
  gather_table σ.symm x _ (starts_table σ.symm _ (order_perm σ p hp)) j

end Cert.ReferenceIdeal.Take

end
-- ==== Proof.Value.lean ====
/-
  The two programs' results compared, at the exact instance: the casts change nothing there, so each device ends with the
  sender's block, and that is its own block of the reference's result.
-/
module

public import proofs.«01_k».proof.Defs
public import proofs.«01_k».proof.Proof.KernelIdeal.End
public import proofs.«01_k».proof.Proof.ReferenceIdeal.Take

@[expose] public section

noncomputable section

namespace Cert.Value

open Idealize.ShloMosaic
open Idealize.ShloMosaic.TcCoe
open Idealize.SL.Sem
open Cert.KernelIdeal.Rot (yOf atY wd moved yOf_atY eq_of_cmpi)
open Cert.ReferenceIdeal.Take (place out)

/-- The shape of one device's block of an array, -/
abbrev Blk : Shape := ⟨3, ![1, 4096, 2048]⟩
/-- and of the whole array. -/
abbrev Whl : Shape := ⟨3, ![4, 4096, 2048]⟩

/-- At the exact instance the casts change nothing. -/
theorem moved_exact (x : FVec Ideal Blk .f32) : moved (F := Ideal) x = x := rfl

/-- The block a device holds lies at its place on the axis. -/
theorem meshLin_y (c : Fin 32) : Layout.meshLin [2, 4, 4] c.val [1] = c.val / 4 % 4 := by
  revert c; decide

/-- Where an element of the block of the device at place `y` of `c`'s line lies, that place being `f` of `c`'s own, is where
    taking the blocks in the order `f` looks for the same element of `c`'s block. -/
theorem idx_place (h : Layout.TilesN Blk Whl (fun b => Layout.cutSize [2, 4, 4] ((![[1], [], []] : Fin 3 → List Nat) b)))
    (f : Fin 4 → Fin 4) (c : Dev Cert.KernelIdeal.nD) (i : Shape.Idx Blk) :
    h.idx (Layout.meshBlock [2, 4, 4] ![[1], [], []] (atY c (f (yOf c)))) i
      = place f (h.idx (Layout.meshBlock [2, 4, 4] ![[1], [], []] c) i) := by
  have hi : (i 0).val = 0 := Nat.lt_one_iff.1 (i 0).isLt
  funext a
  match a with
  | ⟨0, _⟩ =>
    apply Fin.ext
    have hc : ((h.idx (Layout.meshBlock [2, 4, 4] ![[1], [], []] c) i) 0 : Fin 4) = yOf c := by
      apply Fin.ext
      show Layout.meshLin [2, 4, 4] c.val [1] * 1 + (i 0).val = c.val / 4 % 4
      rw [meshLin_y, hi]; omega
    show Layout.meshLin [2, 4, 4] (atY c (f (yOf c))).val [1] * 1 + (i 0).val
      = (f ((h.idx (Layout.meshBlock [2, 4, 4] ![[1], [], []] c) i) 0)).val
    rw [hc, meshLin_y, hi]
    have := congrArg Fin.val (yOf_atY c (f (yOf c)))
    show (atY c (f (yOf c))).val / 4 % 4 * 1 + 0 = _
    have h' : (atY c (f (yOf c))).val / 4 % 4 = (f (yOf c)).val := this
    rw [h']; omega
  | ⟨1, _⟩ => rfl
  | ⟨2, _⟩ => rfl

/-- Both programs run, from memories that hold the same arguments, every copy of `pi` comparing equal, entry for entry, to
    the words of a permutation: the reference ends with a value of which each device of the kernel ends with its block, and the arguments of both are as they were. -/
theorem run_both
    {m : (ℓ : Loc Cert.KernelIdeal.nD Cert.KernelIdeal.τ Cert.KernelIdeal.sig) → Buf (Elt Ideal) ℓ} (ρ : Dev Cert.KernelIdeal.nD → PrngReg)
    {m' : (ℓ : Loc Cert.ReferenceIdeal.nD Cert.ReferenceIdeal.τ Cert.ReferenceIdeal.sig) → Buf (Elt Ideal) ℓ} (ρ' : Dev Cert.ReferenceIdeal.nD → PrngReg)
    {w : IVec Cert.KernelIdeal.S4 32}
    (h : ∀ c : Dev Cert.KernelIdeal.nD,
      cmpi .eq (m ((c : Thread Cert.KernelIdeal.nD Cert.KernelIdeal.τ).loc Cert.KernelIdeal.main_arg1) : IVec Cert.KernelIdeal.S4 32) w = fun _ => 1#1)
    (hm : ∀ c : Dev Cert.KernelIdeal.nD,
      m ((c : Thread Cert.KernelIdeal.nD Cert.KernelIdeal.τ).loc Cert.KernelIdeal.main_arg0)
          = Layout.blockN Blk Whl (Layout.meshBlock [2, 4, 4] ![[1], [], []] c)
            (m' (((0 : Dev Cert.ReferenceIdeal.nD) : Thread Cert.ReferenceIdeal.nD Cert.ReferenceIdeal.τ).loc Cert.ReferenceIdeal.main_arg0))
        ∧ m ((c : Thread Cert.KernelIdeal.nD Cert.KernelIdeal.τ).loc Cert.KernelIdeal.main_arg1)
          = m' (((0 : Dev Cert.ReferenceIdeal.nD) : Thread Cert.ReferenceIdeal.nD Cert.ReferenceIdeal.τ).loc Cert.ReferenceIdeal.main_arg1))
    (hw : ∃ σ : Equiv.Perm (Fin 4), ∀ i : Cert.KernelIdeal.S4.Idx, w i = wd (σ (i 0)) := by decide +kernel) :
    ∃ v : Buf (Elt Ideal) (((0 : Dev Cert.ReferenceIdeal.nD) : Thread Cert.ReferenceIdeal.nD Cert.ReferenceIdeal.τ).loc Cert.ReferenceIdeal.main_v7),
      θ_run (Cert.KernelIdeal.defs (F := Ideal)) (onTc (τ := Cert.KernelIdeal.τ) (Cert.KernelIdeal.main (F := Ideal))) ⟨m, fun _ => 0, ρ⟩ (fun r =>
        ∀ c : Dev Cert.KernelIdeal.nD,
          r.2.mem ((c : Thread Cert.KernelIdeal.nD Cert.KernelIdeal.τ).loc Cert.KernelIdeal.main_v1)
              = Layout.blockN Blk Whl (Layout.meshBlock [2, 4, 4] ![[1], [], []] c) v
            ∧ r.2.mem ((c : Thread Cert.KernelIdeal.nD Cert.KernelIdeal.τ).loc Cert.KernelIdeal.main_arg0)
              = m ((c : Thread Cert.KernelIdeal.nD Cert.KernelIdeal.τ).loc Cert.KernelIdeal.main_arg0)
            ∧ r.2.mem ((c : Thread Cert.KernelIdeal.nD Cert.KernelIdeal.τ).loc Cert.KernelIdeal.main_arg1)
              = m ((c : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, ρ'⟩ (fun r =>
        r.2.mem (((0 : Dev Cert.ReferenceIdeal.nD) : Thread Cert.ReferenceIdeal.nD Cert.ReferenceIdeal.τ).loc Cert.ReferenceIdeal.main_v7) = v
          ∧ r.2.mem (((0 : Dev Cert.ReferenceIdeal.nD) : Thread Cert.ReferenceIdeal.nD Cert.ReferenceIdeal.τ).loc Cert.ReferenceIdeal.main_arg0)
            = m' (((0 : Dev Cert.ReferenceIdeal.nD) : Thread Cert.ReferenceIdeal.nD Cert.ReferenceIdeal.τ).loc Cert.ReferenceIdeal.main_arg0)
          ∧ r.2.mem (((0 : Dev Cert.ReferenceIdeal.nD) : Thread Cert.ReferenceIdeal.nD Cert.ReferenceIdeal.τ).loc Cert.ReferenceIdeal.main_arg1)
            = m' (((0 : Dev Cert.ReferenceIdeal.nD) : Thread Cert.ReferenceIdeal.nD Cert.ReferenceIdeal.τ).loc Cert.ReferenceIdeal.main_arg1)) := by
  obtain ⟨σ, hσ'⟩ := hw
  have hσ := fun (c : Dev Cert.KernelIdeal.nD) (i : Cert.KernelIdeal.S4.Idx) => (eq_of_cmpi (h c) i).trans (hσ' i)
  refine ⟨_, (θ_run _ _ _).mono (fun r h c => ⟨(h c).1.trans ?_, (h c).2⟩) (Cert.KernelIdeal.Rot.run_value m ρ σ hσ),
    (θ_run _ _ _).mono (fun r h => h.1 0) (Cert.ReferenceIdeal.Take.run_main m' ρ')⟩
  rw [moved_exact, (hm _).1]
  funext i
  rw [Layout.blockN_apply, Layout.blockN_apply, idx_place]
  refine (Cert.ReferenceIdeal.Take.out_perm (F := Ideal) σ _ _ (fun j => ?_) _).symm
  rw [← (hm 0).2]
  exact hσ 0 j

end Cert.Value

end
-- ==== Proof.lean ====
/-
  The proof of every claim. Each is one theorem's instance: the kernel's frames `frame_of_words`, the value claims `run_both`,
  the reference's frames its run; the words a precondition compares `pi` with are found to be a permutation's by computation.
-/
module

public import proofs.«01_k».proof.Defs
public import proofs.«01_k».proof.Proof.Gen.Pre_pi_is_0123_Kernel
public import proofs.«01_k».proof.Proof.Gen.Pre_pi_is_0132_Kernel
public import proofs.«01_k».proof.Proof.Gen.Pre_pi_is_0213_Kernel
public import proofs.«01_k».proof.Proof.Gen.Pre_pi_is_0231_Kernel
public import proofs.«01_k».proof.Proof.Gen.Pre_pi_is_0312_Kernel
public import proofs.«01_k».proof.Proof.Gen.Pre_pi_is_0321_Kernel
public import proofs.«01_k».proof.Proof.Gen.Pre_pi_is_1023_Kernel
public import proofs.«01_k».proof.Proof.Gen.Pre_pi_is_1032_Kernel
public import proofs.«01_k».proof.Proof.Gen.Pre_pi_is_1203_Kernel
public import proofs.«01_k».proof.Proof.Gen.Pre_pi_is_1230_Kernel
public import proofs.«01_k».proof.Proof.Gen.Pre_pi_is_1302_Kernel
public import proofs.«01_k».proof.Proof.Gen.Pre_pi_is_1320_Kernel
public import proofs.«01_k».proof.Proof.Gen.Pre_pi_is_2013_Kernel
public import proofs.«01_k».proof.Proof.Gen.Pre_pi_is_2031_Kernel
public import proofs.«01_k».proof.Proof.Gen.Pre_pi_is_2103_Kernel
public import proofs.«01_k».proof.Proof.Gen.Pre_pi_is_2130_Kernel
public import proofs.«01_k».proof.Proof.Gen.Pre_pi_is_2301_Kernel
public import proofs.«01_k».proof.Proof.Gen.Pre_pi_is_2310_Kernel
public import proofs.«01_k».proof.Proof.Gen.Pre_pi_is_3012_Kernel
public import proofs.«01_k».proof.Proof.Gen.Pre_pi_is_3021_Kernel
public import proofs.«01_k».proof.Proof.Gen.Pre_pi_is_3102_Kernel
public import proofs.«01_k».proof.Proof.Gen.Pre_pi_is_3120_Kernel
public import proofs.«01_k».proof.Proof.Gen.Pre_pi_is_3201_Kernel
public import proofs.«01_k».proof.Proof.Gen.Pre_pi_is_3210_Kernel
public import proofs.«01_k».proof.Proof.Gen.Pre_pi_is_0123_ReferenceIdeal
public import proofs.«01_k».proof.Proof.Gen.Pre_pi_is_0132_ReferenceIdeal
public import proofs.«01_k».proof.Proof.Gen.Pre_pi_is_0213_ReferenceIdeal
public import proofs.«01_k».proof.Proof.Gen.Pre_pi_is_0231_ReferenceIdeal
public import proofs.«01_k».proof.Proof.Gen.Pre_pi_is_0312_ReferenceIdeal
public import proofs.«01_k».proof.Proof.Gen.Pre_pi_is_0321_ReferenceIdeal
public import proofs.«01_k».proof.Proof.Gen.Pre_pi_is_1023_ReferenceIdeal
public import proofs.«01_k».proof.Proof.Gen.Pre_pi_is_1032_ReferenceIdeal
public import proofs.«01_k».proof.Proof.Gen.Pre_pi_is_1203_ReferenceIdeal
public import proofs.«01_k».proof.Proof.Gen.Pre_pi_is_1230_ReferenceIdeal
public import proofs.«01_k».proof.Proof.Gen.Pre_pi_is_1302_ReferenceIdeal
public import proofs.«01_k».proof.Proof.Gen.Pre_pi_is_1320_ReferenceIdeal
public import proofs.«01_k».proof.Proof.Gen.Pre_pi_is_2013_ReferenceIdeal
public import proofs.«01_k».proof.Proof.Gen.Pre_pi_is_2031_ReferenceIdeal
public import proofs.«01_k».proof.Proof.Gen.Pre_pi_is_2103_ReferenceIdeal
public import proofs.«01_k».proof.Proof.Gen.Pre_pi_is_2130_ReferenceIdeal
public import proofs.«01_k».proof.Proof.Gen.Pre_pi_is_2301_ReferenceIdeal
public import proofs.«01_k».proof.Proof.Gen.Pre_pi_is_2310_ReferenceIdeal
public import proofs.«01_k».proof.Proof.Gen.Pre_pi_is_3012_ReferenceIdeal
public import proofs.«01_k».proof.Proof.Gen.Pre_pi_is_3021_ReferenceIdeal
public import proofs.«01_k».proof.Proof.Gen.Pre_pi_is_3102_ReferenceIdeal
public import proofs.«01_k».proof.Proof.Gen.Pre_pi_is_3120_ReferenceIdeal
public import proofs.«01_k».proof.Proof.Gen.Pre_pi_is_3201_ReferenceIdeal
public import proofs.«01_k».proof.Proof.Gen.Pre_pi_is_3210_ReferenceIdeal
public import proofs.«01_k».proof.Proof.Kernel.End
public import proofs.«01_k».proof.Proof.Value

@[expose] public section

noncomputable section

namespace Cert.Proof

open Idealize.ShloMosaic Idealize.SL.Sem

/-- The reference keeps its arguments and ends with every counter at zero. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r =>
      (∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1))
      ∧ r.2.sem = fun _ => 0 :=
  (θ_run _ _ _).mono (fun _ h => ⟨fun c => (h.1 c).2, h.2⟩) (Cert.ReferenceIdeal.Take.run_main (F := Ideal) m ρ)

/-- Every claim holds: the kernel's frames at the two instances, the reference's, that the exact instance is the same program,
    and the values, each under the 24 permutations in order. -/
theorem claim : Cert.Claim := by
  refine ⟨Cert.Kernel.Gen.facts,
    Cert.KernelIdeal.Gen.facts,
    Cert.ReferenceIdeal.Gen.facts,
    Cert.Pre_pi_is_0123_Kernel.Gen.facts,
    Cert.Pre_pi_is_0132_Kernel.Gen.facts,
    Cert.Pre_pi_is_0213_Kernel.Gen.facts,
    Cert.Pre_pi_is_0231_Kernel.Gen.facts,
    Cert.Pre_pi_is_0312_Kernel.Gen.facts,
    Cert.Pre_pi_is_0321_Kernel.Gen.facts,
    Cert.Pre_pi_is_1023_Kernel.Gen.facts,
    Cert.Pre_pi_is_1032_Kernel.Gen.facts,
    Cert.Pre_pi_is_1203_Kernel.Gen.facts,
    Cert.Pre_pi_is_1230_Kernel.Gen.facts,
    Cert.Pre_pi_is_1302_Kernel.Gen.facts,
    Cert.Pre_pi_is_1320_Kernel.Gen.facts,
    Cert.Pre_pi_is_2013_Kernel.Gen.facts,
    Cert.Pre_pi_is_2031_Kernel.Gen.facts,
    Cert.Pre_pi_is_2103_Kernel.Gen.facts,
    Cert.Pre_pi_is_2130_Kernel.Gen.facts,
    Cert.Pre_pi_is_2301_Kernel.Gen.facts,
    Cert.Pre_pi_is_2310_Kernel.Gen.facts,
    Cert.Pre_pi_is_3012_Kernel.Gen.facts,
    Cert.Pre_pi_is_3021_Kernel.Gen.facts,
    Cert.Pre_pi_is_3102_Kernel.Gen.facts,
    Cert.Pre_pi_is_3120_Kernel.Gen.facts,
    Cert.Pre_pi_is_3201_Kernel.Gen.facts,
    Cert.Pre_pi_is_3210_Kernel.Gen.facts,
    Cert.Pre_pi_is_0123_ReferenceIdeal.Gen.facts,
    Cert.Pre_pi_is_0132_ReferenceIdeal.Gen.facts,
    Cert.Pre_pi_is_0213_ReferenceIdeal.Gen.facts,
    Cert.Pre_pi_is_0231_ReferenceIdeal.Gen.facts,
    Cert.Pre_pi_is_0312_ReferenceIdeal.Gen.facts,
    Cert.Pre_pi_is_0321_ReferenceIdeal.Gen.facts,
    Cert.Pre_pi_is_1023_ReferenceIdeal.Gen.facts,
    Cert.Pre_pi_is_1032_ReferenceIdeal.Gen.facts,
    Cert.Pre_pi_is_1203_ReferenceIdeal.Gen.facts,
    Cert.Pre_pi_is_1230_ReferenceIdeal.Gen.facts,
    Cert.Pre_pi_is_1302_ReferenceIdeal.Gen.facts,
    Cert.Pre_pi_is_1320_ReferenceIdeal.Gen.facts,
    Cert.Pre_pi_is_2013_ReferenceIdeal.Gen.facts,
    Cert.Pre_pi_is_2031_ReferenceIdeal.Gen.facts,
    Cert.Pre_pi_is_2103_ReferenceIdeal.Gen.facts,
    Cert.Pre_pi_is_2130_ReferenceIdeal.Gen.facts,
    Cert.Pre_pi_is_2301_ReferenceIdeal.Gen.facts,
    Cert.Pre_pi_is_2310_ReferenceIdeal.Gen.facts,
    Cert.Pre_pi_is_3012_ReferenceIdeal.Gen.facts,
    Cert.Pre_pi_is_3021_ReferenceIdeal.Gen.facts,
    Cert.Pre_pi_is_3102_ReferenceIdeal.Gen.facts,
    Cert.Pre_pi_is_3120_ReferenceIdeal.Gen.facts,
    Cert.Pre_pi_is_3201_ReferenceIdeal.Gen.facts,
    Cert.Pre_pi_is_3210_ReferenceIdeal.Gen.facts, ?_⟩
  iterate 24 refine ⟨fun _ ρ h => Cert.Kernel.Rot.frame_of_words ρ h, ?_⟩
  iterate 24 refine ⟨fun _ ρ h => Cert.KernelIdeal.Rot.frame_of_words ρ h, ?_⟩
  iterate 25 refine ⟨fun m ρ _ => reference_frame m ρ, ?_⟩
  refine ⟨trivial, ?_⟩
  iterate 23 refine ⟨fun _ ρ _ ρ' h hm => Cert.Value.run_both ρ ρ' h hm, ?_⟩
  exact fun _ ρ _ ρ' h hm => Cert.Value.run_both ρ ρ' h hm

end Cert.Proof

end
